-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4x256x64x64 : Shape := ⟨5, ![8, 4, 256, 64, 64]⟩
abbrev S4x256x64x64 : Shape := ⟨4, ![4, 256, 64, 64]⟩
abbrev S256 : Shape := ⟨1, ![256]⟩
abbrev S_ : Shape := ⟨0, ![]⟩

class Facts : Prop where
  bcast_S_S8x4x256x64x64 : S_.BroadcastsInDim S8x4x256x64x64 (![] : Fin 0 → Fin S8x4x256x64x64.rank)
  reducesTo_S8x4x256x64x64_S_d0_1_2_3_4 : S8x4x256x64x64.ReducesTo [0, 1, 2, 3, 4] S_
  h_S_ : 0 < S_.numel
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x4x256x64x64 .f32) (main_arg1 : FVec F S4x256x64x64 .f32) (main_arg2 : FVec F S256 .f32) (main_arg3 : FVec F S256 .f32) (main_arg4 : FVec F S256 .f32) : IVec S_ 1 :=
  let main_v0 : FVec F S8x4x256x64x64 .f32 := Host.absf main_arg0
  let main_cst : FVec F S_ .f32 := constant S_ .f32 0x7F800000#32
  let main_v1 : FVec F S8x4x256x64x64 .f32 := broadcastInDim S8x4x256x64x64 ![] bcast_S_S8x4x256x64x64 main_cst
  let main_v2 : IVec S8x4x256x64x64 1 := cmpf .olt main_v0 main_v1
  let main_c : IVec S_ 1 := constantI S_ 1 1#1
  let main_v3 : IVec S_ 1 := (fun x v => Host.reduce IntOp.andi x v reducesTo_S8x4x256x64x64_S_d0_1_2_3_4 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8x4x256x64x64 : Shape := ⟨5, ![8, 4, 256, 64, 64]⟩
abbrev S4x256x64x64 : Shape := ⟨4, ![4, 256, 64, 64]⟩
abbrev S256 : Shape := ⟨1, ![256]⟩
abbrev S8x4x64x64x256 : Shape := ⟨5, ![8, 4, 64, 64, 256]⟩
abbrev S4x64x64x256 : Shape := ⟨4, ![4, 64, 64, 256]⟩
abbrev S256x1 : Shape := ⟨2, ![256, 1]⟩
abbrev S256x128 : Shape := ⟨2, ![256, 128]⟩
abbrev S_ : Shape := ⟨0, ![]⟩
abbrev S1x1 : Shape := ⟨2, ![1, 1]⟩
abbrev S4x1x64x64x256 : Shape := ⟨5, ![4, 1, 64, 64, 256]⟩
abbrev S1x64x64x256 : Shape := ⟨4, ![1, 64, 64, 256]⟩
abbrev S2x4096x128 : Shape := ⟨3, ![2, 4096, 128]⟩
abbrev S512x256 : Shape := ⟨2, ![512, 256]⟩
abbrev S64x64x256 : Shape := ⟨3, ![64, 64, 256]⟩
abbrev S8x64x256 : Shape := ⟨3, ![8, 64, 256]⟩
abbrev S512x128 : Shape := ⟨2, ![512, 128]⟩
abbrev S1x4096x128 : Shape := ⟨3, ![1, 4096, 128]⟩
abbrev S4096x128 : Shape := ⟨2, ![4096, 128]⟩
abbrev S1x512x256 : Shape := ⟨3, ![1, 512, 256]⟩
abbrev S1 : Shape := ⟨1, ![1]⟩
abbrev S1x1x1 : Shape := ⟨3, ![1, 1, 1]⟩
abbrev S1x8x64x256 : Shape := ⟨4, ![1, 8, 64, 256]⟩
abbrev S1x1x64x64x256 : Shape := ⟨5, ![1, 1, 64, 64, 256]⟩

abbrev nBuf : Space → Nat
  | .hbm => 16
  | .vmem => 9
  | .smem => 1
  | _ => 0

abbrev bufTy : (tb : Table) → Fin (tcTables nBuf tb) → BufTy
  | .hbm, ⟨0, _⟩ => ⟨S8x4x256x64x64, .f32⟩
  | .hbm, ⟨1, _⟩ => ⟨S4x256x64x64, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S8x4x64x64x256, .f32⟩
  | .hbm, ⟨7, _⟩ => ⟨S4x64x64x256, .f32⟩
  | .hbm, ⟨8, _⟩ => ⟨S256x1, .f32⟩
  | .hbm, ⟨9, _⟩ => ⟨S256x128, .f32⟩
  | .hbm, ⟨10, _⟩ => ⟨S256x128, .bf16⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S4x64x64x256, .f32⟩
  | .hbm, ⟨15, _⟩ => ⟨S4x256x64x64, .f32⟩
  | .local _ .vmem, ⟨0, _⟩ => ⟨S4x1x64x64x256, .f32⟩
  | .local _ .vmem, ⟨1, _⟩ => ⟨S4x1x64x64x256, .f32⟩
  | .local _ .vmem, ⟨2, _⟩ => ⟨S1x64x64x256, .f32⟩
  | .local _ .vmem, ⟨3, _⟩ => ⟨S1x64x64x256, .f32⟩
  | .local _ .vmem, ⟨4, _⟩ => ⟨S256x128, .bf16⟩
  | .local _ .vmem, ⟨5, _⟩ => ⟨S1x64x64x256, .f32⟩
  | .local _ .vmem, ⟨6, _⟩ => ⟨S1x64x64x256, .f32⟩
  | .local _ .vmem, ⟨7, _⟩ => ⟨S2x4096x128, .f32⟩
  | .local _ .vmem, ⟨8, _⟩ => ⟨S2x4096x128, .f32⟩
  | .local _ .smem, ⟨0, _⟩ => ⟨S1x1, .f32⟩
  | _, _ => ⟨S8x4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_1 : BitVec 32 := 0#32
  let v3 : BitVec 1 := Scalar.cmpi .ne v2 c0_i32_1
  v3

def k0_cond2 (i : grid0.Coords) : BitVec 1 :=
  let arg1 : BitVec 32 := BitVec.ofNat 32 (i 1).val
  let c0_i32_2 : BitVec 32 := 0#32
  let v4 : BitVec 1 := Scalar.cmpi .sgt arg1 c0_i32_2
  let c2_i32 : BitVec 32 := 2#32
  let v5 : BitVec 1 := Scalar.cmpi .slt arg1 c2_i32
  let v6 : BitVec 1 := Scalar.andi v4 v5
  let v7 : BitVec 32 := Scalar.extui v6
  let c0_i32_3 : BitVec 32 := 0#32
  let v8 : BitVec 1 := Scalar.cmpi .ne v7 c0_i32_3
  v8

def k0_cond3 (i : grid0.Coords) : BitVec 1 :=
  let arg1 : BitVec 32 := BitVec.ofNat 32 (i 1).val
  let c2_i32_4 : BitVec 32 := 2#32
  let v9 : BitVec 1 := Scalar.cmpi .eq arg1 c2_i32_4
  let v10 : BitVec 32 := Scalar.extui v9
  let c0_i32_5 : BitVec 32 := 0#32
  let v11 : BitVec 1 := Scalar.cmpi .ne v10 c0_i32_5
  v11

def cc0_transform_0 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, arg0.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let v1 : BitVec 32 := Scalar.extui v0
  let v2 : BitVec 32 := Scalar.addi arg0 v1
  let c3_i32 : BitVec 32 := 3#32
  let v3 : BitVec 32 := Scalar.minsi v2 c3_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4x256x64x64 : Shape := ⟨5, ![8, 4, 256, 64, 64]⟩
abbrev S4x256x64x64 : Shape := ⟨4, ![4, 256, 64, 64]⟩
abbrev S256 : Shape := ⟨1, ![256]⟩
abbrev S1x4x256x64x64 : Shape := ⟨5, ![1, 4, 256, 64, 64]⟩
abbrev S9x4x256x64x64 : Shape := ⟨5, ![9, 4, 256, 64, 64]⟩
abbrev S_ : Shape := ⟨0, ![]⟩
abbrev S9x4 : Shape := ⟨2, ![9, 4]⟩
abbrev S9x4x1x1x1 : Shape := ⟨5, ![9, 4, 1, 1, 1]⟩
abbrev S1x1x256x1x1 : Shape := ⟨5, ![1, 1, 256, 1, 1]⟩
abbrev S9x4x64x64 : Shape := ⟨4, ![9, 4, 64, 64]⟩
abbrev S4x64x64 : Shape := ⟨3, ![4, 64, 64]⟩
abbrev S1x4x64x64 : Shape := ⟨4, ![1, 4, 64, 64]⟩
abbrev S4x64x64x256 : Shape := ⟨4, ![4, 64, 64, 256]⟩

abbrev nBuf : Space → Nat
  | .hbm => 68
  | .vmem => 0
  | .smem => 0
  | _ => 0

abbrev bufTy : (tb : Table) → Fin (tcTables nBuf tb) → BufTy
  | .hbm, ⟨0, _⟩ => ⟨S8x4x256x64x64, .f32⟩
  | .hbm, ⟨1, _⟩ => ⟨S4x256x64x64, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x4x256x64x64, .f32⟩
  | .hbm, ⟨6, _⟩ => ⟨S9x4x256x64x64, .f32⟩
  | .hbm, ⟨7, _⟩ => ⟨S_, .f32⟩
  | .hbm, ⟨8, _⟩ => ⟨S9x4, .f32⟩
  | .hbm, ⟨9, _⟩ => ⟨S9x4x1x1x1, .f32⟩
  | .hbm, ⟨10, _⟩ => ⟨S_, .f32⟩
  | .hbm, ⟨11, _⟩ => ⟨S9x4x1x1x1, .f32⟩
  | .hbm, ⟨12, _⟩ => ⟨S9x4x1x1x1, .f32⟩
  | .hbm, ⟨13, _⟩ => ⟨S_, .i32⟩
  | .hbm, ⟨14, _⟩ => ⟨S_, .f32⟩
  | .hbm, ⟨15, _⟩ => ⟨S9x4, .f32⟩
  | .hbm, ⟨16, _⟩ => ⟨S9x4x1x1x1, .f32⟩
  | .hbm, ⟨17, _⟩ => ⟨S_, .f32⟩
  | .hbm, ⟨18, _⟩ => ⟨S9x4x1x1x1, .f32⟩
  | .hbm, ⟨19, _⟩ => ⟨S9x4x1x1x1, .f32⟩
  | .hbm, ⟨20, _⟩ => ⟨S9x4x256x64x64, .f32⟩
  | .hbm, ⟨21, _⟩ => ⟨S9x4x256x64x64, .f32⟩
  | .hbm, ⟨22, _⟩ => ⟨S9x4x256x64x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S9x4, .f32⟩
  | .hbm, ⟨28, _⟩ => ⟨S9x4x1x1x1, .f32⟩
  | .hbm, ⟨29, _⟩ => ⟨S9x4x1x1x1, .f32⟩
  | .hbm, ⟨30, _⟩ => ⟨S9x4x1x1x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S9x4x1x1x1, .f32⟩
  | .hbm, ⟨36, _⟩ => ⟨S9x4x1x1x1, .f32⟩
  | .hbm, ⟨37, _⟩ => ⟨S9x4x256x64x64, .f32⟩
  | .hbm, ⟨38, _⟩ => ⟨S9x4x256x64x64, .f32⟩
  | .hbm, ⟨39, _⟩ => ⟨S_, .f32⟩
  | .hbm, ⟨40, _⟩ => ⟨S9x4x1x1x1, .f32⟩
  | .hbm, ⟨41, _⟩ => ⟨S9x4x1x1x1, .f32⟩
  | .hbm, ⟨42, _⟩ => ⟨S9x4x1x1x1, .f32⟩
  | .hbm, ⟨43, _⟩ => ⟨S9x4x256x64x64, .f32⟩
  | .hbm, ⟨44, _⟩ => ⟨S9x4x256x64x64, .f32⟩
  | .hbm, ⟨45, _⟩ => ⟨S1x1x256x1x1, .f32⟩
  | .hbm, ⟨46, _⟩ => ⟨S9x4x256x64x64, .f32⟩
  | .hbm, ⟨47, _⟩ => ⟨S9x4x256x64x64, .f32⟩
  | .hbm, ⟨48, _⟩ => ⟨S1x1x256x1x1, .f32⟩
  | .hbm, ⟨49, _⟩ => ⟨S9x4x256x64x64, .f32⟩
  | .hbm, ⟨50, _⟩ => ⟨S9x4x256x64x64, .f32⟩
  | .hbm, ⟨51, _⟩ => ⟨S9x4x64x64, .f32⟩
  | .hbm, ⟨52, _⟩ => ⟨S_, .f32⟩
  | .hbm, ⟨53, _⟩ => ⟨S4x64x64, .f32⟩
  | .hbm, ⟨54, _⟩ => ⟨S_, .f32⟩
  | .hbm, ⟨55, _⟩ => ⟨S4x64x64, .f32⟩
  | .hbm, ⟨56, _⟩ => ⟨S4x64x64, .f32⟩
  | .hbm, ⟨57, _⟩ => ⟨S1x4x64x64, .f32⟩
  | .hbm, ⟨58, _⟩ => ⟨S9x4x64x64, .f32⟩
  | .hbm, ⟨59, _⟩ => ⟨S9x4x64x64, .f32⟩
  | .hbm, ⟨60, _⟩ => ⟨S9x4x64x64, .f32⟩
  | .hbm, ⟨61, _⟩ => ⟨S_, .f32⟩
  | .hbm, ⟨62, _⟩ => ⟨S4x64x64, .f32⟩
  | .hbm, ⟨63, _⟩ => ⟨S1x4x64x64, .f32⟩
  | .hbm, ⟨64, _⟩ => ⟨S9x4x64x64, .f32⟩
  | .hbm, ⟨65, _⟩ => ⟨S9x4x64x64, .f32⟩
  | .hbm, ⟨66, _⟩ => ⟨S4x64x64x256, .f32⟩
  | .hbm, ⟨67, _⟩ => ⟨S4x256x64x64, .f32⟩
  | _, _ => ⟨S8x4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩

abbrev nD : Nat := 1
abbrev τ : Topo := Topo.v7x

variable {F : FTy → Type} [FloatOps F]
-- ==== Proof.Prg.lean ====
/-
  The kernel's body told the way its author wrote it: one application of a depth block to the running softmax is
  a pass over the block's eight row chunks that gathers the statistics and the scores, and a second pass that
  weighs the rows. The printed body is these passes unrolled and cut by count; here each pass is one definition
  over a chunk number, over any memory references of the right shapes, so that a fact about it is proved once.
-/
module

public import Idealize.ShloMosaic.Lib.Pipeline
public import Idealize.ShloMosaic.Lib.Scf
public import Idealize.ShloMosaic.Lib.Sig
public import Idealize.ShloMosaic.PureOps
public import Idealize.ShloMosaic.PureOps.Ideal

@[expose] public section

set_option maxRecDepth 16384

noncomputable section

namespace Cert.Attn

open Idealize.ShloMosaic Idealize.SL.Sem

/-! ## Shapes and row chunks -/

abbrev SSrc : Shape := ⟨3, ![64, 64, 256]⟩
abbrev SSrcC : Shape := ⟨3, ![8, 64, 256]⟩
abbrev SPix : Shape := ⟨2, ![512, 256]⟩
abbrev SW : Shape := ⟨2, ![256, 128]⟩
abbrev SRow : Shape := ⟨2, ![4096, 128]⟩
abbrev SRowC : Shape := ⟨2, ![512, 128]⟩
abbrev SOut : Shape := ⟨4, ![1, 64, 64, 256]⟩
abbrev SOutC : Shape := ⟨4, ![1, 8, 64, 256]⟩
abbrev SPix1 : Shape := ⟨3, ![1, 512, 256]⟩
abbrev SOne : Shape := ⟨1, ![1]⟩
abbrev SOne3 : Shape := ⟨3, ![1, 1, 1]⟩

theorem inb_src (h : Fin 8) : ∀ a, (![8 * h.val, 0, 0] : Fin 3 → Nat) a + SSrcC.size a ≤ SSrc.size a := by
  revert h; decide
theorem inb_row (h : Fin 8) : ∀ a, (![512 * h.val, 0] : Fin 2 → Nat) a + SRowC.size a ≤ SRow.size a := by
  revert h; decide
theorem inb_out (h : Fin 8) : ∀ a, (![0, 8 * h.val, 0, 0] : Fin 4 → Nat) a + SOutC.size a ≤ SOut.size a := by
  revert h; decide
theorem inb_w : ∀ a, (![0, 0] : Fin 2 → Nat) a + SW.size a ≤ SW.size a := by decide

/-- Rows `8h … 8h+7` of a block. -/
abbrev rSrc (h : Fin 8) : Rect SSrc := Rect.unit (s := SSrc) ![8 * h.val, 0, 0] SSrcC.size (inb_src h)
/-- The same rows, pixel by pixel, of a score or weight array. -/
abbrev rRow (h : Fin 8) : Rect SRow := Rect.unit (s := SRow) ![512 * h.val, 0] SRowC.size (inb_row h)
/-- The same rows of the result block. -/
abbrev rOut (h : Fin 8) : Rect SOut := Rect.unit (s := SOut) ![0, 8 * h.val, 0, 0] SOutC.size (inb_out h)
abbrev rW : Rect SW := Rect.unit (s := SW) ![0, 0] SW.size inb_w

theorem pos_srcC : 0 < SSrcC.numel := by decide
theorem pos_rowC : 0 < SRowC.numel := by decide
theorem pos_outC : 0 < SOutC.numel := by decide
theorem pos_w : 0 < SW.numel := by decide
theorem sc_src_src : SSrcC.ShapeCasts SSrcC := by decide
theorem sc_src_pix : SSrcC.ShapeCasts SPix := by decide
theorem sc_pix_src : SPix.ShapeCasts SSrcC := by decide
theorem sc_w_w : SW.ShapeCasts SW := by decide
theorem sc_row_row : SRowC.ShapeCasts SRowC := by decide
theorem sc_pix_pix1 : SPix.ShapeCasts SPix1 := by decide
theorem sc_one_one3 : SOne.ShapeCasts SOne3 := by decide
theorem sc_out_src : SOutC.ShapeCasts SSrcC := by decide
theorem sc_src_out : SSrcC.ShapeCasts SOutC := by decide
theorem red_pix1 : SPix1.Reduces [1, 2] SOne := by decide
theorem inpos_one3 : ∀ a, (![0, 0, 0] : Fin 3 → Nat) a < SOne3.size a := by decide
theorem cat_row : Shape.Concatenates [SRowC, SRowC] SPix 1 := by decide
theorem bits_lt : FTy.bits .bf16 < FTy.bits .f32 := by decide
theorem dot_wf : DotDims.WF SPix SW SRowC [1] [0] [0] [1] [] [] := by decide

/-- The chunk's matrix product: pixels by channels, channels by lanes. -/
def dotPW : DotDims SPix SW SRowC where
  lhsContracting := [1]
  rhsContracting := [0]
  lhsNonContracting := [0]
  rhsNonContracting := [1]
  lhsBatch := []
  rhsBatch := []
  wf := dot_wf

variable {F : FTy → Type} [FloatOps F]

/-! ## The values of one chunk -/

/-- A chunk's rows as pixels by channels. -/
def pix (x : Vec F SSrcC .f32) : FVec F SPix .f32 := shapeCast SPix (shapeCast SSrcC x sc_src_src) sc_src_pix
/-- The running sum's starting value. -/
def acc0 : FVec F SPix .f32 := broadcast SPix (Scalar.ofBits .f32 0x00000000#32)
/-- A chunk's scores: its pixels against the weight matrix. -/
def score (x : Vec F SSrcC .f32) (w : Vec F SW .bf16) : FVec F SRowC .f32 :=
  shapeCast SRowC
    (matmul dotPW none (truncf .bf16 (pix x) bits_lt) (shapeCast SW w sc_w_w) (constant SRowC .f32 0x00000000#32)) sc_row_row
/-- The sum of all of an accumulator. -/
def total (a : FVec F SPix .f32) : F .f32 :=
  extractAt ![0, 0, 0]
    (shapeCast SOne3 (multiReduction .add [1, 2] SOne (shapeCast SPix1 a sc_pix_pix1) 0x00000000#32 red_pix1 (.inl rfl) rfl)
      sc_one_one3) inpos_one3
/-- The mean, from the sum. -/
def meanOf (s : FVec F SPix .f32) : F .f32 := Scalar.mulf (total s) (Scalar.ofBits .f32 0x35800000#32)
/-- The reciprocal deviation times the base-two logarithm of `e` (`lg`), from the sum and the sum of squares. -/
def rstdOf (lg : F .f32) (s q : FVec F SPix .f32) : F .f32 :=
  Scalar.mulf (Scalar.rsqrt (Scalar.addf (Scalar.subf (Scalar.mulf (total q) (Scalar.ofBits .f32 0x35800000#32))
    (Scalar.mulf (meanOf s) (meanOf s))) (Scalar.ofBits .f32 0x3727C5AC#32))) lg
/-- A chunk's weights before division: two to the scaled, shifted scores. -/
def wgt (r sh : F .f32) (z : Vec F SRowC .f32) : FVec F SRowC .f32 :=
  exp2 (mulf (subf z (broadcast SRowC sh)) (broadcast SRowC r))
/-- A chunk's weights repeated over the channels. -/
def spread (p : FVec F SRowC .f32) : FVec F SSrcC .f32 :=
  shapeCast SSrcC (concatenate SPix 1 [⟨SRowC, p⟩, ⟨SRowC, p⟩] cat_row) sc_pix_src
def asSrc (o : Vec F SOutC .f32) : FVec F SSrcC .f32 := shapeCast SSrcC o sc_out_src
def asOut (o : FVec F SSrcC .f32) : FVec F SOutC .f32 := shapeCast SOutC o sc_src_out
def recast (x : Vec F SSrcC .f32) : FVec F SSrcC .f32 := shapeCast SSrcC x sc_src_src

/-- One over the sum of the weights of all the blocks. -/
def invOf (l lo p : FVec F SRowC .f32) : FVec F SRowC .f32 :=
  divf (broadcast SRowC (Scalar.ofBits .f32 0x3F800000#32)) (addf (addf l lo) p)

/-- The result chunk a first application leaves. -/
def outInit (x : Vec F SSrcC .f32) (p : FVec F SRowC .f32) : FVec F SOutC .f32 := asOut (mulf (recast x) (spread p))
/-- The result chunk a middle application leaves, over what was there. -/
def outMid (o : Vec F SOutC .f32) (x : Vec F SSrcC .f32) (p : FVec F SRowC .f32) : FVec F SOutC .f32 :=
  asOut (addf (asSrc o) (mulf (recast x) (spread p)))
/-- The result chunk the last application leaves, over what was there. -/
def outLast (o : Vec F SOutC .f32) (x : Vec F SSrcC .f32) (p i : FVec F SRowC .f32) : FVec F SOutC .f32 :=
  asOut (addf (mulf (asSrc o) (spread i)) (mulf (recast x) (spread (mulf p i))))
def rowOf (p : FVec F SRowC .f32) : FVec F SRowC .f32 := shapeCast SRowC p sc_row_row

/-! ## The passes -/

variable {nD : Nat} {τ : Topo} {sig : RefSig} {Λ : Labels}

/-- Programs of a core. -/
abbrev PT (F : FTy → Type) (nD : Nat) (τ : Topo) (sig : RefSig) (Λ : Labels) :=
  Prog (TpuEff nD τ sig (Elt F) Λ .tc)

variable (src : Memref sig .tc .vmem SSrc .f32) (wm : Memref sig .tc .vmem SW .bf16) (out : Memref sig .tc .vmem SOut .f32)
  (pw l lo : Memref sig .tc .vmem SRow .f32)

def ldSrc (h : Fin 8) : PT F nD τ sig Λ (Vec F SSrcC .f32) := Prog.lift (.load src (rSrc h).toLoadRect (View.loadsAt_vmem pos_srcC))
def ldRow (h : Fin 8) : PT F nD τ sig Λ (Vec F SRowC .f32) := Prog.lift (.load pw (rRow h).toLoadRect (View.loadsAt_vmem pos_rowC))
def ldOut (h : Fin 8) : PT F nD τ sig Λ (Vec F SOutC .f32) := Prog.lift (.load out (rOut h).toLoadRect (View.loadsAt_vmem pos_outC))
def ldW : PT F nD τ sig Λ (Vec F SW .bf16) := Prog.lift (.load wm rW.toLoadRect (View.loadsAt_vmem pos_w))
/-- Store rows; the printed store reads the rows first and drops what it read. -/
def stRow (h : Fin 8) (x : FVec F SRowC .f32) : PT F nD τ sig Λ PUnit := do
  let _ ← ldRow pw h
  Prog.lift (.store pw (rRow h) x Finset.univ (View.stores_vmem_bits_univ pos_rowC rfl) (.inl rfl))
def stOut (h : Fin 8) (x : FVec F SOutC .f32) : PT F nD τ sig Λ PUnit := do
  let _ ← ldOut out h
  Prog.lift (.store out (rOut h) x Finset.univ (View.stores_vmem_bits_univ pos_outC rfl) (.inl rfl))

/-- The statistics and scores of one chunk. -/
def statsChunk (h : Fin 8) (a : FVec F SPix .f32 × FVec F SPix .f32) : PT F nD τ sig Λ (FVec F SPix .f32 × FVec F SPix .f32) := do
  let x ← ldSrc src h
  let w ← ldW wm
  stRow pw h (score x w)
  pure (addf a.1 (pix x), addf a.2 (mulf (pix x) (pix x)))

/-- All eight chunks. -/
def stats : PT F nD τ sig Λ (FVec F SPix .f32 × FVec F SPix .f32) := do
  let a ← statsChunk src wm pw 0 (acc0, acc0)
  let a ← statsChunk src wm pw 1 a
  let a ← statsChunk src wm pw 2 a
  let a ← statsChunk src wm pw 3 a
  let a ← statsChunk src wm pw 4 a
  let a ← statsChunk src wm pw 5 a
  let a ← statsChunk src wm pw 6 a
  statsChunk src wm pw 7 a

/-- What a pass returns: nothing. -/
inductive Done where
  | done

/-- One chunk of the second pass: the first application. -/
def initChunk (r sh : F .f32) (h : Fin 8) : PT F nD τ sig Λ Done := do
  let z ← ldRow pw h
  stRow l h (rowOf (wgt r sh z))
  let x ← ldSrc src h
  stOut out h (outInit x (wgt r sh z))
  pure .done
/-- One chunk of the second pass: a middle application. -/
def midChunk (r sh : F .f32) (h : Fin 8) : PT F nD τ sig Λ Done := do
  let z ← ldRow pw h
  let lv ← ldRow l h
  stRow l h (rowOf (addf lv (wgt r sh z)))
  let o ← ldOut out h
  let x ← ldSrc src h
  stOut out h (outMid o x (wgt r sh z))
  pure .done
/-- One chunk of the second pass: the last application. -/
def lastChunk (r sh : F .f32) (h : Fin 8) : PT F nD τ sig Λ Done := do
  let z ← ldRow pw h
  let lv ← ldRow l h
  let lw ← ldRow lo h
  let o ← ldOut out h
  let x ← ldSrc src h
  stOut out h (outLast o x (wgt r sh z) (invOf lv lw (wgt r sh z)))
  pure .done

/-- A chunk's program at each of the eight chunks in turn. -/
def eight (f : Fin 8 → PT F nD τ sig Λ Done) : PT F nD τ sig Λ Done := do
  let _ ← f 0
  let _ ← f 1
  let _ ← f 2
  let _ ← f 3
  let _ ← f 4
  let _ ← f 5
  let _ ← f 6
  f 7

/-- One application of a block: the statistics, then the chunks weighed. -/
def applyBlk (lg s : F .f32) (chunk : F .f32 → F .f32 → Fin 8 → PT F nD τ sig Λ Done) : PT F nD τ sig Λ Done := do
  let a ← stats src wm pw
  eight (chunk (rstdOf lg a.1 a.2) (Scalar.mulf (meanOf a.1) s))

/-! ## The slices the body works on, and its three branches -/

abbrev SBlk : Shape := ⟨5, ![4, 1, 64, 64, 256]⟩
abbrev SBlk1 : Shape := ⟨5, ![1, 1, 64, 64, 256]⟩
abbrev STwo : Shape := ⟨3, ![2, 4096, 128]⟩
abbrev STwo1 : Shape := ⟨3, ![1, 4096, 128]⟩
abbrev SWord : Shape := ⟨2, ![1, 1]⟩

theorem inb_blk (j : Fin 4) : ∀ a, (![j.val, 0, 0, 0, 0] : Fin 5 → Nat) a + SBlk1.size a ≤ SBlk.size a := by
  revert j; decide
theorem inb_two (k : Fin 2) : ∀ a, (![k.val, 0, 0] : Fin 3 → Nat) a + STwo1.size a ≤ STwo.size a := by
  revert k; decide
theorem inb_x : ∀ a, (![0, 0, 0, 0] : Fin 4 → Nat) a + SOut.size a ≤ SOut.size a := by decide
theorem inb_word : ∀ a, (![0, 0] : Fin 2 → Nat) a + SWord.size a ≤ SWord.size a := by decide
theorem sq_blk : SBlk1.Squeezes SSrc := by decide
theorem sq_two : STwo1.Squeezes SRow := by decide
theorem sq_x : SOut.Squeezes SSrc := by decide
theorem pos_two1 : 0 < STwo1.numel := by decide
theorem sc_row_two1 : SRow.ShapeCasts STwo1 := by decide
theorem numel_word : (Rect.unit (s := SWord) ![0, 0] SWord.size inb_word).shape.numel = 1 := by decide

abbrev rBlk (j : Fin 4) : Rect SBlk := Rect.unit (s := SBlk) ![j.val, 0, 0, 0, 0] SBlk1.size (inb_blk j)
abbrev rTwo (k : Fin 2) : Rect STwo := Rect.unit (s := STwo) ![k.val, 0, 0] STwo1.size (inb_two k)
abbrev rX : Rect SOut := Rect.unit (s := SOut) ![0, 0, 0, 0] SOut.size inb_x

/-- Depth block `j` of a block window. -/
abbrev blk (m : Memref sig .tc .vmem SBlk .f32) (j : Fin 4) : Memref sig .tc .vmem SSrc .f32 :=
  (m.slice (rBlk j) (fun _ => rfl)).squeeze SSrc sq_blk
/-- Half `k` of a scratch buffer. -/
abbrev half (m : Memref sig .tc .vmem STwo .f32) (k : Fin 2) : Memref sig .tc .vmem SRow .f32 :=
  (m.slice (rTwo k) (fun _ => rfl)).squeeze SRow sq_two
/-- The one block of the query window. -/
abbrev xBlk (m : Memref sig .tc .vmem SOut .f32) : Memref sig .tc .vmem SSrc .f32 :=
  (m.slice rX (fun _ => rfl)).squeeze SSrc sq_x

variable (m2 : Memref sig .tc .vmem SBlk .f32) (m3 : Memref sig .tc .vmem SOut .f32) (m4 : Memref sig .tc .vmem SW .bf16)
  (m5 : Memref sig .tc .smem SWord .f32) (m6 : Memref sig .tc .vmem SOut .f32) (m7 m8 : Memref sig .tc .vmem STwo .f32)

def ldWord : PT F nD τ sig Λ (Elt F .f32) :=
  smemLoad m5 (Rect.unit (s := SWord) ![0, 0] SWord.size inb_word) numel_word rfl

/-- Zeros over half one of the sums; the printed store reads the half first. -/
def zeroHalf : PT F nD τ sig Λ Done := do
  let _ ← (Prog.lift (.load m8 (rTwo 1).toLoadRect (View.loadsAt_vmem pos_two1)) : PT F nD τ sig Λ (Vec F STwo1 .f32))
  Prog.lift (.store m8 (rTwo 1) (shapeCast STwo1 (broadcast SRow (Scalar.ofBits (F := F) .f32 0x00000000#32)) sc_row_two1 : FVec F STwo1 .f32)
    Finset.univ (View.stores_vmem_bits_univ pos_two1 rfl) (.inl rfl))
  pure .done

/-- A middle application of block `j`, on half `k` of the scratch. -/
def midAt (lg s : F .f32) (j : Fin 4) (k : Fin 2) : PT F nD τ sig Λ Done :=
  applyBlk (blk m2 j) m4 (half m7 k) lg s (midChunk (blk m2 j) m6 (half m7 k) (half m8 k))

/-- The first step of a row: the query's block. -/
def stepInit (lg s : F .f32) : PT F nD τ sig Λ Done := do
  let _ ← applyBlk (xBlk m3) m4 (half m7 0) lg s (initChunk (xBlk m3) m6 (half m7 0) (half m8 0))
  zeroHalf m8

/-- The second: four blocks. -/
def stepMid (lg s : F .f32) : PT F nD τ sig Λ Done := do
  let _ ← midAt m2 m4 m6 m7 m8 lg s 0 0
  let _ ← midAt m2 m4 m6 m7 m8 lg s 1 1
  let _ ← midAt m2 m4 m6 m7 m8 lg s 2 0
  midAt m2 m4 m6 m7 m8 lg s 3 1

/-- The third: three blocks, then the last one with the division. -/
def stepLast (lg s : F .f32) : PT F nD τ sig Λ Done := do
  let _ ← midAt m2 m4 m6 m7 m8 lg s 0 0
  let _ ← midAt m2 m4 m6 m7 m8 lg s 1 1
  let _ ← midAt m2 m4 m6 m7 m8 lg s 2 0
  applyBlk (blk m2 3) m4 (half m7 1) lg s (lastChunk (blk m2 3) m6 (half m7 1) (half m8 1) (half m8 0))

end Cert.Attn
-- ==== Proof.Rules.lean ====
/-
  What a load and a store do to a buffer held through a memory reference, as functions of the array read through
  it: a load of a rectangle gives the array there, a store lays its payload over the array. And what eight stores
  over disjoint rectangles leave.
-/
module

public import proofs.«01_k».proof.Proof.Prg
public import Idealize.ShloMosaic.Lib.Memref
public import Idealize.ShloMosaic.Lib.Exec

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Held

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Dev nD) (bd : Option 𝒱.V) (E : Set Name)
variable {cs : CoreSpace} {s : Shape} {e : EltTy} {α : Type} {Q : α → sProp (MT nD τ sig Ix Val Name U Lvl)}

/-- A load of a rectangle: the array read through the reference, there. -/
theorem wp_ld (m : Memref sig .tc cs s e) (r : Rect s) (q : PosShare TreeShare) (X : s.Idx → Val e) {hl : m.view.LoadsAt r.toLoadRect}
    {k : (r.shape.Idx → Val e) → Prog (TpuEff nD τ sig Val Λ .tc) α} :
    owns (c : Thread nD τ) m q X
      ⊢ iprop((owns (c : Thread nD τ) m q X -∗ wp frame (wpE defs 𝒱 (c : Thread nD τ) bd) E (k (fun j => X (r.emb j))) Q)
        -∗ wp frame (wpE defs 𝒱 (c : Thread nD τ) bd) E (.op (.load m r.toLoadRect hl) k) Q) := by
  iintro H Hk
  ihave H' := (show owns (c : Thread nD τ) m q X ⊢ iprop(∃ f, ⌜m.view.read Val f = X⌝ ∗ m.view.loc (c : Thread nD τ) ↦[m.view.set]{q} f) from .rfl) $$ H
  icases H' with ⟨%f, %hf, H⟩
  iapply (wp_load 𝒱 (c : Thread nD τ) bd E (m := m) (r := r.toLoadRect) (S := m.view.set) (Finset.map_subset_map.mpr (Finset.subset_univ _))) $$ H
  iintro H
  have h : m.view.readAt Val r.toLoadRect f = fun j => X (r.emb j) := by rw [← hf]; rfl
  rw [h]
  iapply Hk
  iapply (show iprop(∃ f, ⌜m.view.read Val f = X⌝ ∗ m.view.loc (c : Thread nD τ) ↦[m.view.set]{q} f) ⊢ owns (c : Thread nD τ) m q X from .rfl)
  iexists f
  isplitr
  · ipureintro; exact hf
  · iexact H

/-- Reading after a store: the payload laid over what was read before. -/
theorem read_store (m : Memref sig .tc cs s e) (r : Rect s) (f : m.view.ty.Contents Val) (w : r.shape.Idx → Val e) :
    m.view.read Val ((m.access r).write Val f w Finset.univ) = r.overlay (m.view.read Val f) w := by
  funext j
  by_cases hj : j ∈ r.set
  · obtain ⟨i, rfl⟩ := r.exists_idx_of_mem hj
    change m.view.read Val _ (r.emb i) = r.overlay _ w (r.emb i)
    rw [Rect.overlay_emb]
    exact View.read_write_of_mem (v := m.access r) f w (Finset.mem_univ i)
  · rw [Rect.overlay_of_not_mem _ _ _ hj, View.read_apply, View.read_apply]
    congr 1
    refine View.write_of_not_mem _ _ _ ?_
    rw [View.setOn_univ, View.set_slice, Finset.mem_map' m.view.emb]; exact hj

/-- A store over a rectangle: the payload laid over the array. -/
theorem wp_st (m : Memref sig .tc cs s e) (r : Rect s) (X : s.Idx → Val e) {w : r.shape.Idx → Val e}
    {hx : (m.access r).Stores Finset.univ} {hm : (Finset.univ : Finset r.shape.Idx) = Finset.univ ∨ ∀ a, r.stride a = 1}
    {k : PUnit → Prog (TpuEff nD τ sig Val Λ .tc) α} :
    owns (c : Thread nD τ) m fullShare X
      ⊢ iprop((owns (c : Thread nD τ) m fullShare (r.overlay X w) -∗ wp frame (wpE defs 𝒱 (c : Thread nD τ) bd) E (k ⟨⟩) Q)
        -∗ wp frame (wpE defs 𝒱 (c : Thread nD τ) bd) E (.op (.store m r w Finset.univ hx hm) k) Q) := by
  iintro H Hk
  ihave H' := (show owns (c : Thread nD τ) m fullShare X ⊢ iprop(∃ f, ⌜m.view.read Val f = X⌝ ∗ m.view.loc (c : Thread nD τ) ↦[m.view.set]{fullShare} f) from .rfl) $$ H
  icases H' with ⟨%f, %hf, H⟩
  iapply (wp_store 𝒱 (c : Thread nD τ) bd E (m := m) (r := r) (S := m.view.set) (f := f)
    (by rw [View.setOn_univ]; exact View.set_slice_subset _ _)) $$ H
  iintro H
  iapply Hk
  iapply (show iprop(∃ f, ⌜m.view.read Val f = r.overlay X w⌝ ∗ m.view.loc (c : Thread nD τ) ↦[m.view.set]{fullShare} f) ⊢ owns (c : Thread nD τ) m fullShare (r.overlay X w) from .rfl)
  iexists _
  isplitr
  · ipureintro
    rw [← hf]; exact read_store m r f w
  · iexact H

end Held

/-! ## Eight stores -/

section Ups

variable {s : Shape} {α : Type}

/-- An array after the first `n` of eight stores. -/
def ups (r : Fin 8 → Rect s) (G : (h : Fin 8) → (r h).shape.Idx → α) (X : s.Idx → α) : ℕ → s.Idx → α
  | 0 => X
  | n + 1 => if hn : n < 8 then (r ⟨n, hn⟩).overlay (ups r G X n) (G ⟨n, hn⟩) else ups r G X n

variable {r : Fin 8 → Rect s} {G : (h : Fin 8) → (r h).shape.Idx → α} {X : s.Idx → α}

theorem ups_succ (h : Fin 8) : ups r G X (h.val + 1) = (r h).overlay (ups r G X h.val) (G h) := by
  rw [ups, dif_pos h.isLt]

/-- Not yet stored: what was there. -/
theorem ups_ge (hd : ∀ h h' : Fin 8, h ≠ h' → ∀ j, (r h).emb j ∉ (r h').set) (h : Fin 8) (j : (r h).shape.Idx) :
    ∀ n, n ≤ h.val → ups r G X n ((r h).emb j) = X ((r h).emb j)
  | 0, _ => rfl
  | n + 1, hn => by
    have h8 : n < 8 := by omega
    rw [show n + 1 = (⟨n, h8⟩ : Fin 8).val + 1 from rfl, ups_succ,
      Rect.overlay_of_not_mem _ _ _ (hd h ⟨n, h8⟩ (fun he => by rw [he] at hn; simp at hn) j)]
    exact ups_ge hd h j n (by omega)

/-- Stored: the payload. -/
theorem ups_lt (hd : ∀ h h' : Fin 8, h ≠ h' → ∀ j, (r h).emb j ∉ (r h').set) (h : Fin 8) (j : (r h).shape.Idx) :
    ∀ n, h.val < n → n ≤ 8 → ups r G X n ((r h).emb j) = G h j
  | n + 1, hn, h8 => by
    have h8' : n < 8 := by omega
    rw [show n + 1 = (⟨n, h8'⟩ : Fin 8).val + 1 from rfl, ups_succ]
    by_cases he : h = ⟨n, h8'⟩
    · subst he; rw [Rect.overlay_emb]
    · rw [Rect.overlay_of_not_mem _ _ _ (hd h ⟨n, h8'⟩ he j)]
      exact ups_lt hd h j n (by have : h.val ≠ n := fun hh => he (Fin.ext hh); omega) (by omega)

end Ups

end Cert.Attn
-- ==== Proof.Passes.lean ====
/-
  Each pass of the kernel's body as a function of the arrays it works on: the statistics and the scores, and what the
  three kinds of second pass leave in the result and in the sums.
-/
module

public import proofs.«01_k».proof.Proof.Rules

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The chunks apart, and together everything -/

theorem row_apart (h h' : Fin 8) (hh : h ≠ h') (j : (rRow h).shape.Idx) : (rRow h).emb j ∉ (rRow h').set := by
  rw [Rect.mem_set_unit]
  intro hm
  have h0 := hm 0
  have hj : (j 0).val < 512 := (j 0).isLt
  have e0 : ((rRow h).emb j 0).val = 512 * h.val + (j 0).val := by simp [Rect.emb_apply]
  have : h.val ≠ h'.val := fun e => hh (Fin.ext e)
  simp at h0
  omega

theorem out_apart (h h' : Fin 8) (hh : h ≠ h') (j : (rOut h).shape.Idx) : (rOut h).emb j ∉ (rOut h').set := by
  rw [Rect.mem_set_unit]
  intro hm
  have h0 := hm 1
  have hj : (j 1).val < 8 := (j 1).isLt
  have e0 : ((rOut h).emb j 1).val = 8 * h.val + (j 1).val := by simp [Rect.emb_apply]
  have : h.val ≠ h'.val := fun e => hh (Fin.ext e)
  simp at h0
  omega

theorem row_cover (i : SRow.Idx) : ∃ (h : Fin 8) (j : (rRow h).shape.Idx), (rRow h).emb j = i := by
  have hi : (i 0).val < 4096 := (i 0).isLt
  have h1 : (i 1).val < 128 := (i 1).isLt
  let h : Fin 8 := ⟨(i 0).val / 512, by omega⟩
  have hm : i ∈ (rRow h).set := by
    rw [Rect.mem_set_unit]
    intro a
    fin_cases a
    · simp [h]; omega
    · simp; omega
  obtain ⟨j, hj⟩ := (rRow h).exists_idx_of_mem hm
  exact ⟨h, j, hj⟩

theorem out_cover (i : SOut.Idx) : ∃ (h : Fin 8) (j : (rOut h).shape.Idx), (rOut h).emb j = i := by
  have h0 : (i 0).val < 1 := (i 0).isLt
  have hi : (i 1).val < 64 := (i 1).isLt
  have h2 : (i 2).val < 64 := (i 2).isLt
  have h3 : (i 3).val < 256 := (i 3).isLt
  let h : Fin 8 := ⟨(i 1).val / 8, by omega⟩
  have hm : i ∈ (rOut h).set := by
    rw [Rect.mem_set_unit]
    intro a
    fin_cases a
    · simp; omega
    · simp [h]; omega
    · simp; omega
    · simp; omega
  obtain ⟨j, hj⟩ := (rOut h).exists_idx_of_mem hm
  exact ⟨h, j, hj⟩

/-- Eight stores over all the rows leave nothing of what was there. -/
theorem ups_row_eq {α : Type} (G : (h : Fin 8) → (rRow h).shape.Idx → α) (X Y : SRow.Idx → α) :
    ups rRow G X 8 = ups rRow G Y 8 := by
  funext i
  obtain ⟨h, j, rfl⟩ := row_cover i
  rw [ups_lt row_apart h j 8 h.isLt (le_refl _), ups_lt row_apart h j 8 h.isLt (le_refl _)]
theorem ups_out_eq {α : Type} (G : (h : Fin 8) → (rOut h).shape.Idx → α) (X Y : SOut.Idx → α) :
    ups rOut G X 8 = ups rOut G Y 8 := by
  funext i
  obtain ⟨h, j, rfl⟩ := out_cover i
  rw [ups_lt out_apart h j 8 h.isLt (le_refl _), ups_lt out_apart h j 8 h.isLt (le_refl _)]

/-! ## The passes as functions of arrays -/

/-- Rows `8h … 8h+7` of a block. -/
def srcRows (x : Vec F SSrc .f32) (h : Fin 8) : Vec F SSrcC .f32 := fun j => x ((rSrc h).emb j)
def rowRows (z : Vec F SRow .f32) (h : Fin 8) : Vec F SRowC .f32 := fun j => z ((rRow h).emb j)
def outRows (o : Vec F SOut .f32) (h : Fin 8) : Vec F SOutC .f32 := fun j => o ((rOut h).emb j)
/-- The weight matrix as the body reads it. -/
def wRead (w : Vec F SW .bf16) : Vec F SW .bf16 := fun j => w (rW.emb j)

/-- The running sums after the first `n` chunks. -/
def accs (x : Vec F SSrc .f32) : ℕ → FVec F SPix .f32 × FVec F SPix .f32
  | 0 => (acc0, acc0)
  | n + 1 => if hn : n < 8 then
      (addf (accs x n).1 (pix (srcRows x ⟨n, hn⟩)), addf (accs x n).2 (mulf (pix (srcRows x ⟨n, hn⟩)) (pix (srcRows x ⟨n, hn⟩))))
    else accs x n

theorem accs_succ (x : Vec F SSrc .f32) (h : Fin 8) : accs x (h.val + 1)
    = (addf (accs x h.val).1 (pix (srcRows x h)), addf (accs x h.val).2 (mulf (pix (srcRows x h)) (pix (srcRows x h)))) := by
  rw [accs, dif_pos h.isLt]

/-- The scores of a chunk. -/
def scores (x : Vec F SSrc .f32) (w : Vec F SW .bf16) (h : Fin 8) : FVec F SRowC .f32 := score (srcRows x h) (wRead w)
/-- The reciprocal deviation of a block, in base two. -/
def blkR (lg : F .f32) (x : Vec F SSrc .f32) : F .f32 := rstdOf lg (accs x 8).1 (accs x 8).2
/-- The shift of a block's scores. -/
def blkS (s : F .f32) (x : Vec F SSrc .f32) : F .f32 := Scalar.mulf (meanOf (accs x 8).1) s
/-- The weights of a chunk, before division. -/
def wgts (lg s : F .f32) (w : Vec F SW .bf16) (x : Vec F SSrc .f32) (h : Fin 8) : FVec F SRowC .f32 :=
  wgt (blkR lg x) (blkS s x) (scores x w h)

/-- What a step leaves: the result block and the two halves of the sums. -/
structure St (F : FTy → Type) where
  o : SOut.Idx → Elt F .f32
  l0 : SRow.Idx → Elt F .f32
  l1 : SRow.Idx → Elt F .f32

variable (lg s : F .f32) (w : Vec F SW .bf16)

def initL (x : Vec F SSrc .f32) (l : Vec F SRow .f32) : Vec F SRow .f32 := ups rRow (fun h => rowOf (wgts lg s w x h)) l 8
def initO (x : Vec F SSrc .f32) (o : Vec F SOut .f32) : Vec F SOut .f32 :=
  ups rOut (fun h => outInit (srcRows x h) (wgts lg s w x h)) o 8
def midL (x : Vec F SSrc .f32) (l : Vec F SRow .f32) : Vec F SRow .f32 :=
  ups rRow (fun h => rowOf (addf (rowRows l h) (wgts lg s w x h))) l 8
def midO (x : Vec F SSrc .f32) (o : Vec F SOut .f32) : Vec F SOut .f32 :=
  ups rOut (fun h => outMid (outRows o h) (srcRows x h) (wgts lg s w x h)) o 8
def lastO (x : Vec F SSrc .f32) (l lo : Vec F SRow .f32) (o : Vec F SOut .f32) : Vec F SOut .f32 :=
  ups rOut (fun h => outLast (outRows o h) (srcRows x h) (wgts lg s w x h)
    (invOf (rowRows l h) (rowRows lo h) (wgts lg s w x h))) o 8

/-- Any array of a shape. -/
def zeros (t : Shape) : Vec F t .f32 := fun _ => Scalar.ofBits .f32 0x00000000#32

/-- The first step's state. -/
def stInit (x : Vec F SSrc .f32) : St F := ⟨initO lg s w x (zeros _), initL lg s w x (zeros _), zeros _⟩
/-- A middle block on the first half of the sums. -/
def mid0 (x : Vec F SSrc .f32) (t : St F) : St F := ⟨midO lg s w x t.o, midL lg s w x t.l0, t.l1⟩
/-- A middle block on the second half of the sums. -/
def mid1 (x : Vec F SSrc .f32) (t : St F) : St F := ⟨midO lg s w x t.o, t.l0, midL lg s w x t.l1⟩
/-- The last block. -/
def fin1 (x : Vec F SSrc .f32) (t : St F) : St F := ⟨lastO lg s w x t.l1 t.l0 t.o, t.l0, t.l1⟩
/-- The second step. -/
def stMid (x : Fin 4 → Vec F SSrc .f32) (t : St F) : St F :=
  mid1 lg s w (x 3) (mid0 lg s w (x 2) (mid1 lg s w (x 1) (mid0 lg s w (x 0) t)))
/-- The third step. -/
def stLast (x : Fin 4 → Vec F SSrc .f32) (t : St F) : St F :=
  fin1 lg s w (x 3) (mid0 lg s w (x 2) (mid1 lg s w (x 1) (mid0 lg s w (x 0) t)))

/-! ## The passes run -/

variable {nD : Nat} {τ : Topo} {sig : RefSig} {Ix : Type} [DecidableEq Ix] {Name : Type} [DecidableEq Name]
variable {U : Type} [URA U] {Lvl : Type} {Λ : Labels}
variable [Preorder Lvl] {defs : Defs nD τ sig (Elt F) Λ} (𝒱 : Variants) (c : Dev nD) (bd : Option 𝒱.V) (E : Set Name)
variable (src : Memref sig .tc .vmem SSrc .f32) (wm : Memref sig .tc .vmem SW .bf16) (out : Memref sig .tc .vmem SOut .f32)
  (pw l lo : Memref sig .tc .vmem SRow .f32) (q qw : PosShare TreeShare)

theorem wp_done {α : Type} (a : α) {Q : α → sProp (MT nD τ sig Ix (Elt F) Name U Lvl)} :
    Q a ⊢ wp frame (wpE defs 𝒱 (c : Thread nD τ) bd) E (Prog.ret a) Q := by
  rw [wp_ret]; exact BI.fupd_intro

theorem wp_ldRow (h : Fin 8) (X : Vec F SRow .f32) {Q : Vec F SRowC .f32 → sProp (MT nD τ sig Ix (Elt F) Name U Lvl)} :
    owns (c : Thread nD τ) pw q X
      ⊢ iprop((owns (c : Thread nD τ) pw q X -∗ Q (rowRows X h)) -∗ wp frame (wpE defs 𝒱 (c : Thread nD τ) bd) E (ldRow pw h) Q) := by
  iintro H Hk
  iapply (wp_ld 𝒱 c bd E pw (rRow h) q X) $$ H
  iintro H
  iapply (wp_done 𝒱 c bd E)
  rw [show (fun j => X ((rRow h).emb j)) = rowRows X h from rfl]
  iapply Hk; iexact H

theorem wp_ldOut (h : Fin 8) (X : Vec F SOut .f32) {Q : Vec F SOutC .f32 → sProp (MT nD τ sig Ix (Elt F) Name U Lvl)} :
    owns (c : Thread nD τ) out q X
      ⊢ iprop((owns (c : Thread nD τ) out q X -∗ Q (outRows X h)) -∗ wp frame (wpE defs 𝒱 (c : Thread nD τ) bd) E (ldOut out h) Q) := by
  iintro H Hk
  iapply (wp_ld 𝒱 c bd E out (rOut h) q X) $$ H
  iintro H
  iapply (wp_done 𝒱 c bd E)
  rw [show (fun j => X ((rOut h).emb j)) = outRows X h from rfl]
  iapply Hk; iexact H

theorem wp_ldSrc (h : Fin 8) (X : Vec F SSrc .f32) {Q : Vec F SSrcC .f32 → sProp (MT nD τ sig Ix (Elt F) Name U Lvl)} :
    owns (c : Thread nD τ) src q X
      ⊢ iprop((owns (c : Thread nD τ) src q X -∗ Q (srcRows X h)) -∗ wp frame (wpE defs 𝒱 (c : Thread nD τ) bd) E (ldSrc src h) Q) := by
  iintro H Hk
  iapply (wp_ld 𝒱 c bd E src (rSrc h) q X) $$ H
  iintro H
  iapply (wp_done 𝒱 c bd E)
  rw [show (fun j => X ((rSrc h).emb j)) = srcRows X h from rfl]
  iapply Hk; iexact H

theorem wp_ldW (X : Vec F SW .bf16) {Q : Vec F SW .bf16 → sProp (MT nD τ sig Ix (Elt F) Name U Lvl)} :
    owns (c : Thread nD τ) wm qw X
      ⊢ iprop((owns (c : Thread nD τ) wm qw X -∗ Q (wRead X)) -∗ wp frame (wpE defs 𝒱 (c : Thread nD τ) bd) E (ldW wm) Q) := by
  iintro H Hk
  iapply (wp_ld 𝒱 c bd E wm rW qw X) $$ H
  iintro H
  iapply (wp_done 𝒱 c bd E)
  rw [show (fun j => X (rW.emb j)) = wRead X from rfl]
  iapply Hk; iexact H

theorem wp_stRow (h : Fin 8) (p : FVec F SRowC .f32) (X : Vec F SRow .f32) {Q : PUnit → sProp (MT nD τ sig Ix (Elt F) Name U Lvl)} :
    owns (c : Thread nD τ) pw fullShare X
      ⊢ iprop((owns (c : Thread nD τ) pw fullShare ((rRow h).overlay X p) -∗ Q ⟨⟩)
        -∗ wp frame (wpE defs 𝒱 (c : Thread nD τ) bd) E (stRow pw h p) Q) := by
  iintro H Hk
  iapply (wp_ld 𝒱 c bd E pw (rRow h) fullShare X) $$ H
  iintro H
  iapply (wp_st 𝒱 c bd E pw (rRow h) X) $$ H
  iintro H
  iapply (wp_done 𝒱 c bd E)
  iapply Hk; iexact H

theorem wp_stOut (h : Fin 8) (p : FVec F SOutC .f32) (X : Vec F SOut .f32) {Q : PUnit → sProp (MT nD τ sig Ix (Elt F) Name U Lvl)} :
    owns (c : Thread nD τ) out fullShare X
      ⊢ iprop((owns (c : Thread nD τ) out fullShare ((rOut h).overlay X p) -∗ Q ⟨⟩)
        -∗ wp frame (wpE defs 𝒱 (c : Thread nD τ) bd) E (stOut out h p) Q) := by
  iintro H Hk
  iapply (wp_ld 𝒱 c bd E out (rOut h) fullShare X) $$ H
  iintro H
  iapply (wp_st 𝒱 c bd E out (rOut h) X) $$ H
  iintro H
  iapply (wp_done 𝒱 c bd E)
  iapply Hk; iexact H

/-- The statistics pass at one chunk. -/
theorem wp_statsChunk (x : Vec F SSrc .f32) (w : Vec F SW .bf16) (z : Vec F SRow .f32) (h : Fin 8)
    {Q : FVec F SPix .f32 × FVec F SPix .f32 → sProp (MT nD τ sig Ix (Elt F) Name U Lvl)} :
    iprop(owns (c : Thread nD τ) src q x ∗ owns (c : Thread nD τ) wm qw w ∗ owns (c : Thread nD τ) pw fullShare (ups rRow (scores x w) z h.val)
        ∗ (owns (c : Thread nD τ) src q x -∗ owns (c : Thread nD τ) wm qw w
            -∗ owns (c : Thread nD τ) pw fullShare (ups rRow (scores x w) z (h.val + 1)) -∗ Q (accs x (h.val + 1))))
      ⊢ wp frame (wpE defs 𝒱 (c : Thread nD τ) bd) E (statsChunk src wm pw h (accs x h.val)) Q := by
  iintro ⟨Hs, Hw, Hp, Hk⟩
  simp only [statsChunk, wp_bind, wp_pure]
  iapply (wp_ldSrc 𝒱 c bd E src q h x) $$ Hs
  iintro Hs
  iapply (wp_ldW 𝒱 c bd E wm qw w) $$ Hw
  iintro Hw
  iapply (wp_stRow 𝒱 c bd E pw h (score (srcRows x h) (wRead w)) _) $$ Hp
  iintro Hp
  imodintro
  rw [ups_succ, accs_succ, show scores x w h = score (srcRows x h) (wRead w) from rfl]
  iapply Hk $$ Hs Hw Hp

/-- The statistics pass. -/
theorem wp_stats (x : Vec F SSrc .f32) (w : Vec F SW .bf16) (z : Vec F SRow .f32)
    {Q : FVec F SPix .f32 × FVec F SPix .f32 → sProp (MT nD τ sig Ix (Elt F) Name U Lvl)} :
    iprop(owns (c : Thread nD τ) src q x ∗ owns (c : Thread nD τ) wm qw w ∗ owns (c : Thread nD τ) pw fullShare z
        ∗ (owns (c : Thread nD τ) src q x -∗ owns (c : Thread nD τ) wm qw w
            -∗ owns (c : Thread nD τ) pw fullShare (ups rRow (scores x w) z 8) -∗ Q (accs x 8)))
      ⊢ wp frame (wpE defs 𝒱 (c : Thread nD τ) bd) E (stats src wm pw) Q := by
  iintro ⟨Hs, Hw, Hp, Hk⟩
  simp only [stats, wp_bind]
  iapply (wp_statsChunk 𝒱 c bd E src wm pw q qw x w z 0); isplitl [Hs]; · iexact Hs
  isplitl [Hw]; · iexact Hw
  isplitl [Hp]; · iexact Hp
  iintro Hs Hw Hp
  iapply (wp_statsChunk 𝒱 c bd E src wm pw q qw x w z 1); isplitl [Hs]; · iexact Hs
  isplitl [Hw]; · iexact Hw
  isplitl [Hp]; · iexact Hp
  iintro Hs Hw Hp
  iapply (wp_statsChunk 𝒱 c bd E src wm pw q qw x w z 2); isplitl [Hs]; · iexact Hs
  isplitl [Hw]; · iexact Hw
  isplitl [Hp]; · iexact Hp
  iintro Hs Hw Hp
  iapply (wp_statsChunk 𝒱 c bd E src wm pw q qw x w z 3); isplitl [Hs]; · iexact Hs
  isplitl [Hw]; · iexact Hw
  isplitl [Hp]; · iexact Hp
  iintro Hs Hw Hp
  iapply (wp_statsChunk 𝒱 c bd E src wm pw q qw x w z 4); isplitl [Hs]; · iexact Hs
  isplitl [Hw]; · iexact Hw
  isplitl [Hp]; · iexact Hp
  iintro Hs Hw Hp
  iapply (wp_statsChunk 𝒱 c bd E src wm pw q qw x w z 5); isplitl [Hs]; · iexact Hs
  isplitl [Hw]; · iexact Hw
  isplitl [Hp]; · iexact Hp
  iintro Hs Hw Hp
  iapply (wp_statsChunk 𝒱 c bd E src wm pw q qw x w z 6); isplitl [Hs]; · iexact Hs
  isplitl [Hw]; · iexact Hw
  isplitl [Hp]; · iexact Hp
  iintro Hs Hw Hp
  iapply (wp_statsChunk 𝒱 c bd E src wm pw q qw x w z 7); isplitl [Hs]; · iexact Hs
  isplitl [Hw]; · iexact Hw
  isplitl [Hp]; · iexact Hp
  iexact Hk

end Cert.Attn
-- ==== Proof.Steps.lean ====
/-
  The second passes and the kernel's three kinds of step, run: each takes the arrays it is handed to the ones the pass
  functions say.
-/
module

public import proofs.«01_k».proof.Proof.Passes

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Ix : Type} [DecidableEq Ix] {Name : Type} [DecidableEq Name]
variable {U : Type} [URA U] {Lvl : Type} {Λ : Labels}
variable [Preorder Lvl] {defs : Defs nD τ sig (Elt F) Λ} (𝒱 : Variants) (c : Dev nD) (bd : Option 𝒱.V) (E : Set Name)
variable (src : Memref sig .tc .vmem SSrc .f32) (wm : Memref sig .tc .vmem SW .bf16) (out : Memref sig .tc .vmem SOut .f32)
  (pw l lo : Memref sig .tc .vmem SRow .f32) (q qw : PosShare TreeShare)

/-- Eight chunks keep what each of them advances. -/
theorem wp_eight (f : Fin 8 → PT F nD τ sig Λ Done) (P : ℕ → sProp (MT nD τ sig Ix (Elt F) Name U Lvl))
    (hf : ∀ (h : Fin 8) (Q : Done → sProp (MT nD τ sig Ix (Elt F) Name U Lvl)),
      iprop(P h.val ∗ (P (h.val + 1) -∗ Q .done)) ⊢ wp frame (wpE defs 𝒱 (c : Thread nD τ) bd) E (f h) Q)
    {Q : Done → sProp (MT nD τ sig Ix (Elt F) Name U Lvl)} :
    iprop(P 0 ∗ (P 8 -∗ Q .done)) ⊢ wp frame (wpE defs 𝒱 (c : Thread nD τ) bd) E (eight f) Q := by
  iintro ⟨H, Hk⟩
  have g (n : ℕ) (hn : n < 8) (Q : Done → sProp (MT nD τ sig Ix (Elt F) Name U Lvl)) :
      iprop(P n ∗ (P (n + 1) -∗ Q .done)) ⊢ wp frame (wpE defs 𝒱 (c : Thread nD τ) bd) E (f ⟨n, hn⟩) Q := hf ⟨n, hn⟩ Q
  simp only [eight, wp_bind]
  iapply (g 0 (by decide) _); isplitl [H]; · iexact H
  iintro H
  iapply (g 1 (by decide) _); isplitl [H]; · iexact H
  iintro H
  iapply (g 2 (by decide) _); isplitl [H]; · iexact H
  iintro H
  iapply (g 3 (by decide) _); isplitl [H]; · iexact H
  iintro H
  iapply (g 4 (by decide) _); isplitl [H]; · iexact H
  iintro H
  iapply (g 5 (by decide) _); isplitl [H]; · iexact H
  iintro H
  iapply (g 6 (by decide) _); isplitl [H]; · iexact H
  iintro H
  iapply (g 7 (by decide) _); isplitl [H]; · iexact H
  iexact Hk

/-- A chunk not yet stored to reads what was there at the start. -/
theorem rowRows_ups (G : (h : Fin 8) → (rRow h).shape.Idx → F .f32) (X : Vec F SRow .f32) (h : Fin 8) :
    rowRows (F := F) (ups rRow G X h.val) h = rowRows X h := by
  funext j; exact ups_ge row_apart h j h.val (le_refl _)
theorem outRows_ups (G : (h : Fin 8) → (rOut h).shape.Idx → F .f32) (X : Vec F SOut .f32) (h : Fin 8) :
    outRows (F := F) (ups rOut G X h.val) h = outRows X h := by
  funext j; exact ups_ge out_apart h j h.val (le_refl _)
/-- After all eight stores a chunk reads what was stored to it. -/
theorem rowRows_all (G : (h : Fin 8) → (rRow h).shape.Idx → F .f32) (X : Vec F SRow .f32) (h : Fin 8) :
    rowRows (F := F) (ups rRow G X 8) h = G h := by
  funext j; exact ups_lt row_apart h j 8 h.isLt (le_refl _)

variable (lg s : F .f32) (w : Vec F SW .bf16) (x : Vec F SSrc .f32)

/-- One chunk of a first application. -/
theorem wp_initChunk (z L : Vec F SRow .f32) (o : Vec F SOut .f32) (h : Fin 8)
    (Q : Done → sProp (MT nD τ sig Ix (Elt F) Name U Lvl)) :
    iprop((owns (c : Thread nD τ) src q x ∗ owns (c : Thread nD τ) pw fullShare (ups rRow (scores x w) z 8)
        ∗ owns (c : Thread nD τ) l fullShare (ups rRow (fun h => rowOf (wgts lg s w x h)) L h.val)
        ∗ owns (c : Thread nD τ) out fullShare (ups rOut (fun h => outInit (srcRows x h) (wgts lg s w x h)) o h.val))
      ∗ ((owns (c : Thread nD τ) src q x ∗ owns (c : Thread nD τ) pw fullShare (ups rRow (scores x w) z 8)
        ∗ owns (c : Thread nD τ) l fullShare (ups rRow (fun h => rowOf (wgts lg s w x h)) L (h.val + 1))
        ∗ owns (c : Thread nD τ) out fullShare (ups rOut (fun h => outInit (srcRows x h) (wgts lg s w x h)) o (h.val + 1)))
          -∗ Q .done))
      ⊢ wp frame (wpE defs 𝒱 (c : Thread nD τ) bd) E (initChunk src out pw l (blkR lg x) (blkS s x) h) Q := by
  iintro ⟨⟨Hs, Hp, Hl, Ho⟩, Hk⟩
  simp only [initChunk, wp_bind, wp_pure]
  iapply (wp_ldRow 𝒱 c bd E pw fullShare h _) $$ Hp
  iintro Hp
  rw [rowRows_all, show wgt (blkR lg x) (blkS s x) (scores x w h) = wgts lg s w x h from rfl]
  iapply (wp_stRow 𝒱 c bd E l h (rowOf (wgts lg s w x h)) _) $$ Hl
  iintro Hl
  iapply (wp_ldSrc 𝒱 c bd E src q h x) $$ Hs
  iintro Hs
  iapply (wp_stOut 𝒱 c bd E out h (outInit (srcRows x h) (wgts lg s w x h)) _) $$ Ho
  iintro Ho
  imodintro
  rw [ups_succ, ups_succ]
  iapply Hk
  isplitl [Hs]; · iexact Hs
  isplitl [Hp]; · iexact Hp
  isplitl [Hl]; · iexact Hl
  iexact Ho

/-- One chunk of a middle application. -/
theorem wp_midChunk (z L : Vec F SRow .f32) (o : Vec F SOut .f32) (h : Fin 8)
    (Q : Done → sProp (MT nD τ sig Ix (Elt F) Name U Lvl)) :
    iprop((owns (c : Thread nD τ) src q x ∗ owns (c : Thread nD τ) pw fullShare (ups rRow (scores x w) z 8)
        ∗ owns (c : Thread nD τ) l fullShare (ups rRow (fun h => rowOf (addf (rowRows L h) (wgts lg s w x h))) L h.val)
        ∗ owns (c : Thread nD τ) out fullShare (ups rOut (fun h => outMid (outRows o h) (srcRows x h) (wgts lg s w x h)) o h.val))
      ∗ ((owns (c : Thread nD τ) src q x ∗ owns (c : Thread nD τ) pw fullShare (ups rRow (scores x w) z 8)
        ∗ owns (c : Thread nD τ) l fullShare (ups rRow (fun h => rowOf (addf (rowRows L h) (wgts lg s w x h))) L (h.val + 1))
        ∗ owns (c : Thread nD τ) out fullShare (ups rOut (fun h => outMid (outRows o h) (srcRows x h) (wgts lg s w x h)) o (h.val + 1)))
          -∗ Q .done))
      ⊢ wp frame (wpE defs 𝒱 (c : Thread nD τ) bd) E (midChunk src out pw l (blkR lg x) (blkS s x) h) Q := by
  iintro ⟨⟨Hs, Hp, Hl, Ho⟩, Hk⟩
  simp only [midChunk, wp_bind, wp_pure]
  iapply (wp_ldRow 𝒱 c bd E pw fullShare h _) $$ Hp
  iintro Hp
  rw [rowRows_all, show wgt (blkR lg x) (blkS s x) (scores x w h) = wgts lg s w x h from rfl]
  iapply (wp_ldRow 𝒱 c bd E l fullShare h _) $$ Hl
  iintro Hl
  rw [rowRows_ups]
  iapply (wp_stRow 𝒱 c bd E l h (rowOf (addf (rowRows L h) (wgts lg s w x h))) _) $$ Hl
  iintro Hl
  iapply (wp_ldOut 𝒱 c bd E out fullShare h _) $$ Ho
  iintro Ho
  rw [outRows_ups]
  iapply (wp_ldSrc 𝒱 c bd E src q h x) $$ Hs
  iintro Hs
  iapply (wp_stOut 𝒱 c bd E out h (outMid (outRows o h) (srcRows x h) (wgts lg s w x h)) _) $$ Ho
  iintro Ho
  imodintro
  rw [ups_succ, ups_succ]
  iapply Hk
  isplitl [Hs]; · iexact Hs
  isplitl [Hp]; · iexact Hp
  isplitl [Hl]; · iexact Hl
  iexact Ho

/-- One chunk of the last application. -/
theorem wp_lastChunk (z L Lo : Vec F SRow .f32) (o : Vec F SOut .f32) (h : Fin 8)
    (Q : Done → sProp (MT nD τ sig Ix (Elt F) Name U Lvl)) :
    iprop((owns (c : Thread nD τ) src q x ∗ owns (c : Thread nD τ) pw fullShare (ups rRow (scores x w) z 8)
        ∗ owns (c : Thread nD τ) l fullShare L ∗ owns (c : Thread nD τ) lo fullShare Lo
        ∗ owns (c : Thread nD τ) out fullShare (ups rOut (fun h => outLast (outRows o h) (srcRows x h) (wgts lg s w x h)
            (invOf (rowRows L h) (rowRows Lo h) (wgts lg s w x h))) o h.val))
      ∗ ((owns (c : Thread nD τ) src q x ∗ owns (c : Thread nD τ) pw fullShare (ups rRow (scores x w) z 8)
        ∗ owns (c : Thread nD τ) l fullShare L ∗ owns (c : Thread nD τ) lo fullShare Lo
        ∗ owns (c : Thread nD τ) out fullShare (ups rOut (fun h => outLast (outRows o h) (srcRows x h) (wgts lg s w x h)
            (invOf (rowRows L h) (rowRows Lo h) (wgts lg s w x h))) o (h.val + 1)))
          -∗ Q .done))
      ⊢ wp frame (wpE defs 𝒱 (c : Thread nD τ) bd) E (lastChunk src out pw l lo (blkR lg x) (blkS s x) h) Q := by
  iintro ⟨⟨Hs, Hp, Hl, Hlo, Ho⟩, Hk⟩
  simp only [lastChunk, wp_bind, wp_pure]
  iapply (wp_ldRow 𝒱 c bd E pw fullShare h _) $$ Hp
  iintro Hp
  rw [rowRows_all, show wgt (blkR lg x) (blkS s x) (scores x w h) = wgts lg s w x h from rfl]
  iapply (wp_ldRow 𝒱 c bd E l fullShare h _) $$ Hl
  iintro Hl
  iapply (wp_ldRow 𝒱 c bd E lo fullShare h _) $$ Hlo
  iintro Hlo
  iapply (wp_ldOut 𝒱 c bd E out fullShare h _) $$ Ho
  iintro Ho
  rw [outRows_ups]
  iapply (wp_ldSrc 𝒱 c bd E src q h x) $$ Hs
  iintro Hs
  iapply (wp_stOut 𝒱 c bd E out h (outLast (outRows o h) (srcRows x h) (wgts lg s w x h)
    (invOf (rowRows L h) (rowRows Lo h) (wgts lg s w x h))) _) $$ Ho
  iintro Ho
  imodintro
  rw [ups_succ]
  iapply Hk
  isplitl [Hs]; · iexact Hs
  isplitl [Hp]; · iexact Hp
  isplitl [Hl]; · iexact Hl
  isplitl [Hlo]; · iexact Hlo
  iexact Ho

/-- An application: the statistics leave the scores, the chunks advance what they advance. -/
theorem wp_applyBlk (chunk : F .f32 → F .f32 → Fin 8 → PT F nD τ sig Λ Done)
    (P : Vec F SRow .f32 → ℕ → sProp (MT nD τ sig Ix (Elt F) Name U Lvl))
    (hf : ∀ (z : Vec F SRow .f32) (h : Fin 8) (Q : Done → sProp (MT nD τ sig Ix (Elt F) Name U Lvl)),
      iprop((owns (c : Thread nD τ) src q x ∗ owns (c : Thread nD τ) pw fullShare (ups rRow (scores x w) z 8) ∗ P z h.val)
        ∗ ((owns (c : Thread nD τ) src q x ∗ owns (c : Thread nD τ) pw fullShare (ups rRow (scores x w) z 8) ∗ P z (h.val + 1))
          -∗ Q .done))
        ⊢ wp frame (wpE defs 𝒱 (c : Thread nD τ) bd) E (chunk (blkR lg x) (blkS s x) h) Q)
    (P0 P8 : sProp (MT nD τ sig Ix (Elt F) Name U Lvl)) (h0 : ∀ z, P0 ⊢ P z 0) (h8 : ∀ z, P z 8 ⊢ P8)
    {Q : Done → sProp (MT nD τ sig Ix (Elt F) Name U Lvl)} :
    iprop(owns (c : Thread nD τ) src q x ∗ owns (c : Thread nD τ) wm qw w ∗ (∃ z, owns (c : Thread nD τ) pw fullShare z) ∗ P0
        ∗ (owns (c : Thread nD τ) src q x -∗ owns (c : Thread nD τ) wm qw w -∗ (∃ z, owns (c : Thread nD τ) pw fullShare z) -∗ P8 -∗ Q .done))
      ⊢ wp frame (wpE defs 𝒱 (c : Thread nD τ) bd) E (applyBlk src wm pw lg s chunk) Q := by
  iintro ⟨Hs, Hw, ⟨%z, Hp⟩, HP, Hk⟩
  simp only [applyBlk, wp_bind]
  iapply (wp_stats 𝒱 c bd E src wm pw q qw x w z)
  isplitl [Hs]; · iexact Hs
  isplitl [Hw]; · iexact Hw
  isplitl [Hp]; · iexact Hp
  iintro Hs Hw Hp
  iapply (wp_eight 𝒱 c bd E _ (fun n => iprop(owns (c : Thread nD τ) src q x
    ∗ owns (c : Thread nD τ) pw fullShare (ups rRow (scores x w) z 8) ∗ P z n)) (fun h Q => hf z h Q))
  isplitl [Hs Hp HP]
  · isplitl [Hs]; · iexact Hs
    isplitl [Hp]; · iexact Hp
    iapply (h0 z); iexact HP
  iintro ⟨Hs, Hp, HP⟩
  iapply Hk $$ Hs Hw [Hp]
  · iexists _; iexact Hp
  iapply (h8 z); iexact HP

end Cert.Attn
-- ==== Proof.Halves.lean ====
/-
  The slices the body works on: a squeezed memory reference owns what the reference does, re-indexed; the scratch
  buffers split into their two halves, a block window into its four blocks, and each is joined again.
-/
module

public import proofs.«01_k».proof.Proof.Steps
public import Idealize.ShloMosaic.Lib.Pipeline.Kit

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Squeeze

variable {nD : Nat} {τ : Topo} {sig : RefSig} {Val : EltTy → Type}
variable {Ix : Type} [DecidableEq Ix] {Name : Type} [DecidableEq Name] {U : Type} [URA U] {Lvl : Type}
variable (c : Dev nD) {s s' : Shape} {e : EltTy} (m : Memref sig .tc .vmem s e) (q : PosShare TreeShare)

/-- A squeezed reference owns what the reference does, re-indexed. -/
theorem owns_squeeze (h : s.Squeezes s') (X : s.Idx → Val e) :
    (owns (c : Thread nD τ) (m.squeeze s' h) q (fun y => X (Shape.reshapeEquiv h.numel_eq y)) : sProp (MT nD τ sig Ix Val Name U Lvl))
      = owns (c : Thread nD τ) m q X := by
  have hs : (m.squeeze s' h).view.set = m.view.set := View.set_reshape (v := m.view) h.numel_eq
  have hr (f : m.view.ty.Contents Val) : ((m.squeeze s' h).view.read Val f = fun y => X (Shape.reshapeEquiv h.numel_eq y)) ↔ m.view.read Val f = X := by
    constructor
    · intro e; funext i
      have := congrFun e ((Shape.reshapeEquiv h.numel_eq).symm i)
      simp only [Equiv.apply_symm_apply] at this
      rw [← this]
      change _ = m.view.read Val f (Shape.reshapeEquiv h.numel_eq ((Shape.reshapeEquiv h.numel_eq).symm i))
      rw [Equiv.apply_symm_apply]
    · rintro rfl; rfl
  unfold owns
  rw [hs]
  have h₁ : iprop(∃ f, ⌜(m.squeeze s' h).view.read Val f = fun y => X (Shape.reshapeEquiv h.numel_eq y)⌝ ∗ ((m.squeeze s' h).view.loc (c : Thread nD τ) ↦[m.view.set]{q} f))
      ⊢ (iprop(∃ f, ⌜m.view.read Val f = X⌝ ∗ (m.view.loc (c : Thread nD τ) ↦[m.view.set]{q} f)) : sProp (MT nD τ sig Ix Val Name U Lvl)) := by
    iintro ⟨%f, %hf, H⟩; iexists f; isplitr
    · ipureintro; exact (hr f).mp hf
    · iexact H
  have h₂ : iprop(∃ f, ⌜m.view.read Val f = X⌝ ∗ (m.view.loc (c : Thread nD τ) ↦[m.view.set]{q} f))
      ⊢ (iprop(∃ f, ⌜(m.squeeze s' h).view.read Val f = fun y => X (Shape.reshapeEquiv h.numel_eq y)⌝ ∗ ((m.squeeze s' h).view.loc (c : Thread nD τ) ↦[m.view.set]{q} f)) : sProp (MT nD τ sig Ix Val Name U Lvl)) := by
    iintro ⟨%f, %hf, H⟩; iexists f; isplitr
    · ipureintro; exact (hr f).mpr hf
    · iexact H
  exact BI.equiv_iff.mp ⟨h₁, h₂⟩

/-- The same from the squeezed side. -/
theorem owns_unsqueeze (h : s.Squeezes s') (Y : s'.Idx → Val e) :
    (owns (c : Thread nD τ) (m.squeeze s' h) q Y : sProp (MT nD τ sig Ix Val Name U Lvl))
      = owns (c : Thread nD τ) m q (fun i => Y ((Shape.reshapeEquiv h.numel_eq).symm i)) := by
  rw [← owns_squeeze (Ix := Ix) (Name := Name) (U := U) (Lvl := Lvl) c m q h]
  simp only [Equiv.symm_apply_apply]

end Squeeze

section Slices

variable {F : FTy → Type} [FloatOps F]
variable {nD : Nat} {τ : Topo} {sig : RefSig} {Ix : Type} [DecidableEq Ix] {Name : Type} [DecidableEq Name]
variable {U : Type} [URA U] {Lvl : Type} {Λ : Labels}
variable [Preorder Lvl] {defs : Defs nD τ sig (Elt F) Λ} (𝒱 : Variants) (c : Dev nD) (bd : Option 𝒱.V) (E : Set Name)
variable (q : PosShare TreeShare)

local notation "𝕄" => MT nD τ sig Ix (Elt F) Name U Lvl

/-! ## The halves of a scratch buffer -/

theorem two_apart (k k' : Fin 2) (hk : k ≠ k') (j : (rTwo k).shape.Idx) : (rTwo k).emb j ∉ (rTwo k').set := by
  rw [Rect.mem_set_unit]
  intro hm
  have h0 := hm 0
  have hj : (j 0).val < 1 := (j 0).isLt
  have e0 : ((rTwo k).emb j 0).val = k.val + (j 0).val := by simp [Rect.emb_apply]
  have : k.val ≠ k'.val := fun e => hk (Fin.ext e)
  simp at h0
  omega

theorem two_disjoint (k k' : Fin 2) (hk : k ≠ k') : Disjoint (rTwo k).set (rTwo k').set := by
  rw [Finset.disjoint_left]
  intro i hi
  obtain ⟨j, rfl⟩ := (rTwo k).exists_idx_of_mem hi
  exact two_apart k k' hk j

theorem two_cover : (Finset.univ : Finset (Fin 2)).biUnion (fun k => (rTwo k).set) = Finset.univ := by
  refine Finset.eq_univ_of_forall fun i => Finset.mem_biUnion.mpr ⟨i 0, Finset.mem_univ _, ?_⟩
  rw [Rect.mem_set_unit]
  have h1 : (i 1).val < 4096 := (i 1).isLt
  have h2 : (i 2).val < 128 := (i 2).isLt
  intro a
  fin_cases a
  · simp
  · simp; omega
  · simp; omega

theorem bigSep_two {M : Type} [URA M] (Φ : Fin 2 → sProp M) : bigSep Finset.univ Φ = iprop(Φ 0 ∗ Φ 1) :=
  bigSep_univ_eq_bigSepL [(0 : Fin 2), (1 : Fin 2)] (by decide) (by decide) Φ

/-- Half `k` of an array of two. -/
def halfOf (X : Vec F STwo .f32) (k : Fin 2) : Vec F SRow .f32 := fun y => X ((rTwo k).emb (Shape.reshapeEquiv sq_two.numel_eq y))

/-- A scratch buffer is its two halves, -/
theorem owns_halves (m : Memref sig .tc .vmem STwo .f32) (X : Vec F STwo .f32) :
    (owns (c : Thread nD τ) m q X : sProp 𝕄)
      ⊢ iprop(owns (c : Thread nD τ) (half m 0) q (halfOf X 0) ∗ owns (c : Thread nD τ) (half m 1) q (halfOf X 1)) := by
  refine (owns_rects (c : Thread nD τ) m q rTwo (fun _ _ => rfl) two_disjoint two_cover X).trans ?_
  rw [bigSep_two]
  unfold halfOf half
  rw [owns_squeeze c (m.slice (rTwo 0) (fun _ => rfl)) q sq_two (fun j => X ((rTwo 0).emb j)),
    owns_squeeze c (m.slice (rTwo 1) (fun _ => rfl)) q sq_two (fun j => X ((rTwo 1).emb j))]

/-- and two halves are a scratch buffer. -/
theorem owns_of_halves (m : Memref sig .tc .vmem STwo .f32) (a b : Vec F SRow .f32) :
    iprop(owns (c : Thread nD τ) (half m 0) q a ∗ owns (c : Thread nD τ) (half m 1) q b)
      ⊢ (iprop(∃ X, owns (c : Thread nD τ) m q X) : sProp 𝕄) := by
  let a' : (rTwo 0).shape.Idx → Elt F .f32 := fun i => a ((Shape.reshapeEquiv sq_two.numel_eq).symm i)
  let b' : (rTwo 1).shape.Idx → Elt F .f32 := fun i => b ((Shape.reshapeEquiv sq_two.numel_eq).symm i)
  let X : Vec F STwo .f32 := (rTwo 1).overlay ((rTwo 0).overlay (zeros STwo) a') b'
  have h0 : (fun j => X ((rTwo 0).emb j)) = a' := by
    funext j
    change (rTwo 1).overlay _ b' ((rTwo 0).emb j) = _
    rw [Rect.overlay_of_not_mem _ _ _ (two_apart 0 1 (by decide) j), Rect.overlay_emb]
  have h1 : (fun j => X ((rTwo 1).emb j)) = b' := by
    funext j
    change (rTwo 1).overlay _ b' ((rTwo 1).emb j) = _
    rw [Rect.overlay_emb]
  have h := owns_of_rects (Ix := Ix) (Name := Name) (U := U) (Lvl := Lvl) (c : Thread nD τ) m q rTwo (fun _ _ => rfl) two_disjoint two_cover X
  rw [bigSep_two, h0, h1] at h
  rw [owns_unsqueeze c (m.slice (rTwo 0) (fun _ => rfl)) q sq_two a, owns_unsqueeze c (m.slice (rTwo 1) (fun _ => rfl)) q sq_two b]
  exact h.trans (by iintro H; iexists X; iexact H)

/-! ## The blocks of a block window -/

theorem blk_disjoint (k k' : Fin 4) (hk : k ≠ k') : Disjoint (rBlk k).set (rBlk k').set := by
  rw [Finset.disjoint_left]
  intro i hi hm
  rw [Rect.mem_set_unit] at hi hm
  have h0 := hi 0
  have h1 := hm 0
  have : k.val ≠ k'.val := fun e => hk (Fin.ext e)
  simp at h0 h1
  omega

theorem blk_cover : (Finset.univ : Finset (Fin 4)).biUnion (fun k => (rBlk k).set) = Finset.univ := by
  refine Finset.eq_univ_of_forall fun i => Finset.mem_biUnion.mpr ⟨i 0, Finset.mem_univ _, ?_⟩
  rw [Rect.mem_set_unit]
  have h1 : (i 1).val < 1 := (i 1).isLt
  have h2 : (i 2).val < 64 := (i 2).isLt
  have h3 : (i 3).val < 64 := (i 3).isLt
  have h4 : (i 4).val < 256 := (i 4).isLt
  intro a
  fin_cases a
  · simp
  · simp; omega
  · simp; omega
  · simp; omega
  · simp; omega

theorem bigSep_four {M : Type} [URA M] (Φ : Fin 4 → sProp M) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- Block `j` of a window of four. -/
def blkOf (X : Vec F SBlk .f32) (j : Fin 4) : Vec F SSrc .f32 := fun y => X ((rBlk j).emb (Shape.reshapeEquiv sq_blk.numel_eq y))

/-- A block window is its four blocks. -/
theorem owns_blks (m : Memref sig .tc .vmem SBlk .f32) (X : Vec F SBlk .f32) :
    (owns (c : Thread nD τ) m q X : sProp 𝕄)
      = iprop(owns (c : Thread nD τ) (blk m 0) q (blkOf X 0) ∗ owns (c : Thread nD τ) (blk m 1) q (blkOf X 1)
          ∗ owns (c : Thread nD τ) (blk m 2) q (blkOf X 2) ∗ owns (c : Thread nD τ) (blk m 3) q (blkOf X 3)) := by
  have e : (owns (c : Thread nD τ) m q X : sProp 𝕄) = bigSep Finset.univ fun k => owns (c : Thread nD τ) (m.slice (rBlk k) (fun _ => rfl)) q (fun j => X ((rBlk k).emb j)) :=
    BI.equiv_iff.mp ⟨owns_rects (c : Thread nD τ) m q rBlk (fun _ _ => rfl) blk_disjoint blk_cover X,
      owns_of_rects (c : Thread nD τ) m q rBlk (fun _ _ => rfl) blk_disjoint blk_cover X⟩
  rw [e, bigSep_four]
  unfold blkOf blk
  rw [owns_squeeze c (m.slice (rBlk 0) (fun _ => rfl)) q sq_blk (fun j => X ((rBlk 0).emb j)),
    owns_squeeze c (m.slice (rBlk 1) (fun _ => rfl)) q sq_blk (fun j => X ((rBlk 1).emb j)),
    owns_squeeze c (m.slice (rBlk 2) (fun _ => rfl)) q sq_blk (fun j => X ((rBlk 2).emb j)),
    owns_squeeze c (m.slice (rBlk 3) (fun _ => rfl)) q sq_blk (fun j => X ((rBlk 3).emb j))]

/-! ## The block of the query window -/

/-- The one block of the query window. -/
def xOf (X : Vec F SOut .f32) : Vec F SSrc .f32 := fun y => X (rX.emb (Shape.reshapeEquiv sq_x.numel_eq y))

theorem x_cover (i : SOut.Idx) : i ∈ rX.set := by
  rw [Rect.mem_set_unit]
  have h1 : (i 1).val < 64 := (i 1).isLt
  have h2 : (i 2).val < 64 := (i 2).isLt
  have h3 : (i 3).val < 256 := (i 3).isLt
  intro a
  fin_cases a
  · have h0 : (i 0).val < 1 := (i 0).isLt
    simp; omega
  · simp; omega
  · simp; omega
  · simp; omega

theorem bigSep_one {M : Type} [URA M] (Φ : Fin 1 → sProp M) : bigSep Finset.univ Φ = iprop(Φ 0) :=
  bigSep_univ_eq_bigSepL [(0 : Fin 1)] (by decide) (by decide) Φ

theorem owns_xBlk (m : Memref sig .tc .vmem SOut .f32) (X : Vec F SOut .f32) :
    (owns (c : Thread nD τ) m q X : sProp 𝕄) = owns (c : Thread nD τ) (xBlk m) q (xOf X) := by
  have hd : ∀ t t' : Fin 1, t ≠ t' → Disjoint rX.set rX.set := fun t t' h => absurd (Subsingleton.elim t t') h
  have hc : (Finset.univ : Finset (Fin 1)).biUnion (fun _ => rX.set) = Finset.univ :=
    Finset.eq_univ_of_forall fun i => Finset.mem_biUnion.mpr ⟨0, Finset.mem_univ _, x_cover i⟩
  have e : (owns (c : Thread nD τ) m q X : sProp 𝕄) = bigSep Finset.univ fun _ : Fin 1 => owns (c : Thread nD τ) (m.slice rX (fun _ => rfl)) q (fun j => X (rX.emb j)) :=
    BI.equiv_iff.mp ⟨owns_rects (c : Thread nD τ) m q (fun _ => rX) (fun _ _ => rfl) hd hc X,
      owns_of_rects (c : Thread nD τ) m q (fun _ => rX) (fun _ _ => rfl) hd hc X⟩
  rw [e, bigSep_one]
  unfold xOf xBlk
  rw [owns_squeeze c (m.slice rX (fun _ => rfl)) q sq_x (fun j => X (rX.emb j))]

/-! ## The two accesses outside the passes -/

/-- Half one of the sums set to zeros. -/
theorem wp_zeroHalf (m8 : Memref sig .tc .vmem STwo .f32) (b : Vec F SRow .f32) {Q : Done → sProp 𝕄} :
    owns (c : Thread nD τ) (half m8 1) fullShare b
      ⊢ iprop((owns (c : Thread nD τ) (half m8 1) fullShare (zeros SRow) -∗ Q .done)
        -∗ wp frame (wpE defs 𝒱 (c : Thread nD τ) bd) E (zeroHalf m8) Q) := by
  unfold half
  rw [owns_unsqueeze c (m8.slice (rTwo 1) (fun _ => rfl)) fullShare sq_two b, owns_unsqueeze c (m8.slice (rTwo 1) (fun _ => rfl)) fullShare sq_two (zeros SRow)]
  iintro H Hk
  ihave H' := (show owns (c : Thread nD τ) (m8.slice (rTwo 1) (fun _ => rfl)) fullShare _ ⊢ iprop(∃ f, ⌜(m8.slice (rTwo 1) (fun _ => rfl)).view.read (Elt F) f = _⌝ ∗ (m8.slice (rTwo 1) (fun _ => rfl)).view.loc (c : Thread nD τ) ↦[(m8.slice (rTwo 1) (fun _ => rfl)).view.set]{fullShare} f) from .rfl) $$ H
  icases H' with ⟨%f, %hf, H⟩
  iapply (wp_load 𝒱 (c : Thread nD τ) bd E (m := m8) (r := (rTwo 1).toLoadRect) (S := (m8.slice (rTwo 1) (fun _ => rfl)).view.set)
    (le_of_eq (View.set_slice _ _).symm)) $$ H
  iintro H
  iapply (wp_store 𝒱 (c : Thread nD τ) bd E (m := m8) (r := rTwo 1) (S := (m8.slice (rTwo 1) (fun _ => rfl)).view.set) (f := f)
    (by rw [View.setOn_univ])) $$ H
  iintro H
  iapply (wp_done 𝒱 c bd E)
  iapply Hk
  unfold owns
  iexists _
  isplitr
  · ipureintro
    exact View.read_write_univ (v := m8.access (rTwo 1)) f _
  · iexact H

/-- The word of the score sum. -/
def wordOf (X : Vec F SWord .f32) : F .f32 :=
  X ((Rect.unit (s := SWord) ![0, 0] SWord.size inb_word).emb (Shape.Idx.first (numel_word.symm ▸ Nat.one_pos)))

theorem wp_ldWord (m5 : Memref sig .tc .smem SWord .f32) (X : Vec F SWord .f32) {Q : Elt F .f32 → sProp 𝕄} :
    owns (c : Thread nD τ) m5 q X
      ⊢ iprop((owns (c : Thread nD τ) m5 q X -∗ Q (wordOf X))
        -∗ wp frame (wpE defs 𝒱 (c : Thread nD τ) bd) E (ldWord m5) Q) := by
  iintro H Hk
  iapply (wp_ld 𝒱 c bd E m5 (Rect.unit (s := SWord) ![0, 0] SWord.size inb_word) q X) $$ H
  iintro H
  iapply (wp_done 𝒱 c bd E)
  rw [show (fun j => X ((Rect.unit (s := SWord) ![0, 0] SWord.size inb_word).emb j)) (Shape.Idx.first (numel_word.symm ▸ Nat.one_pos)) = wordOf X from rfl]
  iapply Hk; iexact H

end Slices

end Cert.Attn
-- ==== Proof.Triples.lean ====
/-
  The three kinds of step, run from the windows and the scratch halves to the state each leaves.
-/
module

public import proofs.«01_k».proof.Proof.Halves

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Ix : Type} [DecidableEq Ix] {Name : Type} [DecidableEq Name]
variable {U : Type} [URA U] {Lvl : Type} {Λ : Labels}
variable [Preorder Lvl] {defs : Defs nD τ sig (Elt F) Λ} (𝒱 : Variants) (c : Dev nD) (bd : Option 𝒱.V) (E : Set Name)
variable (q qw : PosShare TreeShare)

local notation "𝕄" => MT nD τ sig Ix (Elt F) Name U Lvl

section Apply

variable (src : Memref sig .tc .vmem SSrc .f32) (wm : Memref sig .tc .vmem SW .bf16) (out : Memref sig .tc .vmem SOut .f32)
  (pw l lo : Memref sig .tc .vmem SRow .f32)
variable (lg s : F .f32) (w : Vec F SW .bf16) (x : Vec F SSrc .f32)

/-- A first application. -/
theorem wp_applyInit (L : Vec F SRow .f32) (o : Vec F SOut .f32) {Q : Done → sProp 𝕄} :
    iprop(owns (c : Thread nD τ) src q x ∗ owns (c : Thread nD τ) wm qw w ∗ (∃ z, owns (c : Thread nD τ) pw fullShare z)
        ∗ (owns (c : Thread nD τ) l fullShare L ∗ owns (c : Thread nD τ) out fullShare o)
        ∗ (owns (c : Thread nD τ) src q x -∗ owns (c : Thread nD τ) wm qw w -∗ (∃ z, owns (c : Thread nD τ) pw fullShare z)
          -∗ (owns (c : Thread nD τ) l fullShare (initL lg s w x L) ∗ owns (c : Thread nD τ) out fullShare (initO lg s w x o)) -∗ Q .done))
      ⊢ wp frame (wpE defs 𝒱 (c : Thread nD τ) bd) E (applyBlk src wm pw lg s (initChunk src out pw l)) Q :=
  wp_applyBlk 𝒱 c bd E src wm pw q qw lg s w x _
    (fun _ n => iprop(owns (c : Thread nD τ) l fullShare (ups rRow (fun h => rowOf (wgts lg s w x h)) L n)
      ∗ owns (c : Thread nD τ) out fullShare (ups rOut (fun h => outInit (srcRows x h) (wgts lg s w x h)) o n)))
    (fun z h Q => wp_initChunk 𝒱 c bd E src out pw l q lg s w x z L o h Q) _ _ (fun _ => .rfl) (fun _ => .rfl)

/-- A middle application. -/
theorem wp_applyMid (L : Vec F SRow .f32) (o : Vec F SOut .f32) {Q : Done → sProp 𝕄} :
    iprop(owns (c : Thread nD τ) src q x ∗ owns (c : Thread nD τ) wm qw w ∗ (∃ z, owns (c : Thread nD τ) pw fullShare z)
        ∗ (owns (c : Thread nD τ) l fullShare L ∗ owns (c : Thread nD τ) out fullShare o)
        ∗ (owns (c : Thread nD τ) src q x -∗ owns (c : Thread nD τ) wm qw w -∗ (∃ z, owns (c : Thread nD τ) pw fullShare z)
          -∗ (owns (c : Thread nD τ) l fullShare (midL lg s w x L) ∗ owns (c : Thread nD τ) out fullShare (midO lg s w x o)) -∗ Q .done))
      ⊢ wp frame (wpE defs 𝒱 (c : Thread nD τ) bd) E (applyBlk src wm pw lg s (midChunk src out pw l)) Q :=
  wp_applyBlk 𝒱 c bd E src wm pw q qw lg s w x _
    (fun _ n => iprop(owns (c : Thread nD τ) l fullShare (ups rRow (fun h => rowOf (addf (rowRows L h) (wgts lg s w x h))) L n)
      ∗ owns (c : Thread nD τ) out fullShare (ups rOut (fun h => outMid (outRows o h) (srcRows x h) (wgts lg s w x h)) o n)))
    (fun z h Q => wp_midChunk 𝒱 c bd E src out pw l q lg s w x z L o h Q) _ _ (fun _ => .rfl) (fun _ => .rfl)

/-- The last application. -/
theorem wp_applyLast (L Lo : Vec F SRow .f32) (o : Vec F SOut .f32) {Q : Done → sProp 𝕄} :
    iprop(owns (c : Thread nD τ) src q x ∗ owns (c : Thread nD τ) wm qw w ∗ (∃ z, owns (c : Thread nD τ) pw fullShare z)
        ∗ (owns (c : Thread nD τ) l fullShare L ∗ owns (c : Thread nD τ) lo fullShare Lo ∗ owns (c : Thread nD τ) out fullShare o)
        ∗ (owns (c : Thread nD τ) src q x -∗ owns (c : Thread nD τ) wm qw w -∗ (∃ z, owns (c : Thread nD τ) pw fullShare z)
          -∗ (owns (c : Thread nD τ) l fullShare L ∗ owns (c : Thread nD τ) lo fullShare Lo ∗ owns (c : Thread nD τ) out fullShare (lastO lg s w x L Lo o)) -∗ Q .done))
      ⊢ wp frame (wpE defs 𝒱 (c : Thread nD τ) bd) E (applyBlk src wm pw lg s (lastChunk src out pw l lo)) Q :=
  wp_applyBlk 𝒱 c bd E src wm pw q qw lg s w x _
    (fun _ n => iprop(owns (c : Thread nD τ) l fullShare L ∗ owns (c : Thread nD τ) lo fullShare Lo
      ∗ owns (c : Thread nD τ) out fullShare (ups rOut (fun h => outLast (outRows o h) (srcRows x h) (wgts lg s w x h)
            (invOf (rowRows L h) (rowRows Lo h) (wgts lg s w x h))) o n)))
    (fun z h Q => wp_lastChunk 𝒱 c bd E src out pw l lo q lg s w x z L Lo o h Q) _ _ (fun _ => .rfl) (fun _ => .rfl)

end Apply

section Step

variable (m2 : Memref sig .tc .vmem SBlk .f32) (m3 : Memref sig .tc .vmem SOut .f32) (m4 : Memref sig .tc .vmem SW .bf16)
  (m6 : Memref sig .tc .vmem SOut .f32) (m7 m8 : Memref sig .tc .vmem STwo .f32)
variable (lg s : F .f32) (w : Vec F SW .bf16)

/-- What a step works on: the scratch scores at anything, the sums and the result at a state. -/
def held (t : St F) : sProp 𝕄 :=
  iprop((∃ z, owns (c : Thread nD τ) (half m7 0) fullShare z) ∗ (∃ z, owns (c : Thread nD τ) (half m7 1) fullShare z)
    ∗ owns (c : Thread nD τ) (half m8 0) fullShare t.l0 ∗ owns (c : Thread nD τ) (half m8 1) fullShare t.l1
    ∗ owns (c : Thread nD τ) m6 fullShare t.o)

theorem initL_any (x : Vec F SSrc .f32) (L L' : Vec F SRow .f32) : initL lg s w x L = initL lg s w x L' := ups_row_eq _ _ _
theorem initO_any (x : Vec F SSrc .f32) (o o' : Vec F SOut .f32) : initO lg s w x o = initO lg s w x o' := ups_out_eq _ _ _

/-- The first step, from any state. -/
theorem wp_stepInit (X : Vec F SOut .f32) (t : St F) {Q : Done → sProp 𝕄} :
    iprop(owns (c : Thread nD τ) m3 q X ∗ owns (c : Thread nD τ) m4 qw w ∗ held c m6 m7 m8 t
        ∗ (owns (c : Thread nD τ) m3 q X -∗ owns (c : Thread nD τ) m4 qw w -∗ held c m6 m7 m8 (stInit lg s w (xOf X)) -∗ Q .done))
      ⊢ wp frame (wpE defs 𝒱 (c : Thread nD τ) bd) E (stepInit m3 m4 m6 m7 m8 lg s) Q := by
  unfold held stInit
  dsimp only
  rw [owns_xBlk c q m3 X, initL_any lg s w (xOf X) (zeros _) t.l0, initO_any lg s w (xOf X) (zeros _) t.o]
  iintro ⟨Hx, Hw, ⟨Hz, Hz', Hl, Hl', Ho⟩, Hk⟩
  simp only [stepInit, wp_bind]
  iapply (wp_applyInit 𝒱 c bd E q qw (xBlk m3) m4 m6 (half m7 0) (half m8 0) lg s w (xOf X) t.l0 t.o)
  isplitl [Hx]; · iexact Hx
  isplitl [Hw]; · iexact Hw
  isplitl [Hz]; · iexact Hz
  isplitl [Hl Ho]
  · isplitl [Hl]; · iexact Hl
    iexact Ho
  iintro Hx Hw Hz ⟨Hl, Ho⟩
  iapply (wp_zeroHalf 𝒱 c bd E m8 t.l1) $$ Hl'
  iintro Hl'
  iapply Hk $$ Hx Hw
  isplitl [Hz]; · iexact Hz
  isplitl [Hz']; · iexact Hz'
  isplitl [Hl]; · iexact Hl
  isplitl [Hl']; · iexact Hl'
  iexact Ho

/-- A middle application on the first half. -/
theorem wp_mid0 (j : Fin 4) (x : Vec F SSrc .f32) (t : St F) {Q : Done → sProp 𝕄} :
    iprop(owns (c : Thread nD τ) (blk m2 j) q x ∗ owns (c : Thread nD τ) m4 qw w ∗ held c m6 m7 m8 t
        ∗ (owns (c : Thread nD τ) (blk m2 j) q x -∗ owns (c : Thread nD τ) m4 qw w -∗ held c m6 m7 m8 (mid0 lg s w x t) -∗ Q .done))
      ⊢ wp frame (wpE defs 𝒱 (c : Thread nD τ) bd) E (midAt m2 m4 m6 m7 m8 lg s j 0) Q := by
  unfold held mid0 midAt
  dsimp only
  iintro ⟨Hx, Hw, ⟨Hz, Hz', Hl, Hl', Ho⟩, Hk⟩
  iapply (wp_applyMid 𝒱 c bd E q qw (blk m2 j) m4 m6 (half m7 0) (half m8 0) lg s w x t.l0 t.o)
  isplitl [Hx]; · iexact Hx
  isplitl [Hw]; · iexact Hw
  isplitl [Hz]; · iexact Hz
  isplitl [Hl Ho]
  · isplitl [Hl]; · iexact Hl
    iexact Ho
  iintro Hx Hw Hz ⟨Hl, Ho⟩
  iapply Hk $$ Hx Hw
  isplitl [Hz]; · iexact Hz
  isplitl [Hz']; · iexact Hz'
  isplitl [Hl]; · iexact Hl
  isplitl [Hl']; · iexact Hl'
  iexact Ho

/-- A middle application on the second half. -/
theorem wp_mid1 (j : Fin 4) (x : Vec F SSrc .f32) (t : St F) {Q : Done → sProp 𝕄} :
    iprop(owns (c : Thread nD τ) (blk m2 j) q x ∗ owns (c : Thread nD τ) m4 qw w ∗ held c m6 m7 m8 t
        ∗ (owns (c : Thread nD τ) (blk m2 j) q x -∗ owns (c : Thread nD τ) m4 qw w -∗ held c m6 m7 m8 (mid1 lg s w x t) -∗ Q .done))
      ⊢ wp frame (wpE defs 𝒱 (c : Thread nD τ) bd) E (midAt m2 m4 m6 m7 m8 lg s j 1) Q := by
  unfold held mid1 midAt
  dsimp only
  iintro ⟨Hx, Hw, ⟨Hz, Hz', Hl, Hl', Ho⟩, Hk⟩
  iapply (wp_applyMid 𝒱 c bd E q qw (blk m2 j) m4 m6 (half m7 1) (half m8 1) lg s w x t.l1 t.o)
  isplitl [Hx]; · iexact Hx
  isplitl [Hw]; · iexact Hw
  isplitl [Hz']; · iexact Hz'
  isplitl [Hl' Ho]
  · isplitl [Hl']; · iexact Hl'
    iexact Ho
  iintro Hx Hw Hz' ⟨Hl', Ho⟩
  iapply Hk $$ Hx Hw
  isplitl [Hz]; · iexact Hz
  isplitl [Hz']; · iexact Hz'
  isplitl [Hl]; · iexact Hl
  isplitl [Hl']; · iexact Hl'
  iexact Ho

/-- The last application: on the second half, the first half beside it. -/
theorem wp_fin1 (j : Fin 4) (x : Vec F SSrc .f32) (t : St F) {Q : Done → sProp 𝕄} :
    iprop(owns (c : Thread nD τ) (blk m2 j) q x ∗ owns (c : Thread nD τ) m4 qw w ∗ held c m6 m7 m8 t
        ∗ (owns (c : Thread nD τ) (blk m2 j) q x -∗ owns (c : Thread nD τ) m4 qw w -∗ held c m6 m7 m8 (fin1 lg s w x t) -∗ Q .done))
      ⊢ wp frame (wpE defs 𝒱 (c : Thread nD τ) bd) E
          (applyBlk (blk m2 j) m4 (half m7 1) lg s (lastChunk (blk m2 j) m6 (half m7 1) (half m8 1) (half m8 0))) Q := by
  unfold held fin1
  dsimp only
  iintro ⟨Hx, Hw, ⟨Hz, Hz', Hl, Hl', Ho⟩, Hk⟩
  iapply (wp_applyLast 𝒱 c bd E q qw (blk m2 j) m4 m6 (half m7 1) (half m8 1) (half m8 0) lg s w x t.l1 t.l0 t.o)
  isplitl [Hx]; · iexact Hx
  isplitl [Hw]; · iexact Hw
  isplitl [Hz']; · iexact Hz'
  isplitl [Hl Hl' Ho]
  · isplitl [Hl']; · iexact Hl'
    isplitl [Hl]; · iexact Hl
    iexact Ho
  iintro Hx Hw Hz' ⟨Hl', Hl, Ho⟩
  iapply Hk $$ Hx Hw
  isplitl [Hz]; · iexact Hz
  isplitl [Hz']; · iexact Hz'
  isplitl [Hl]; · iexact Hl
  isplitl [Hl']; · iexact Hl'
  iexact Ho

/-- The first three blocks of a step of four. -/
theorem wp_three (x : Vec F SBlk .f32) (t : St F) (K : PT F nD τ sig Λ Done) {Q : Done → sProp 𝕄} :
    iprop(owns (c : Thread nD τ) (blk m2 0) q (blkOf x 0) ∗ owns (c : Thread nD τ) (blk m2 1) q (blkOf x 1)
        ∗ owns (c : Thread nD τ) (blk m2 2) q (blkOf x 2) ∗ owns (c : Thread nD τ) m4 qw w ∗ held c m6 m7 m8 t
        ∗ (owns (c : Thread nD τ) (blk m2 0) q (blkOf x 0) -∗ owns (c : Thread nD τ) (blk m2 1) q (blkOf x 1)
          -∗ owns (c : Thread nD τ) (blk m2 2) q (blkOf x 2) -∗ owns (c : Thread nD τ) m4 qw w
          -∗ held c m6 m7 m8 (mid0 lg s w (blkOf x 2) (mid1 lg s w (blkOf x 1) (mid0 lg s w (blkOf x 0) t)))
          -∗ wp frame (wpE defs 𝒱 (c : Thread nD τ) bd) E K Q))
      ⊢ wp frame (wpE defs 𝒱 (c : Thread nD τ) bd) E (do
          let _ ← midAt m2 m4 m6 m7 m8 lg s 0 0
          let _ ← midAt m2 m4 m6 m7 m8 lg s 1 1
          let _ ← midAt m2 m4 m6 m7 m8 lg s 2 0
          K) Q := by
  iintro ⟨H0, H1, H2, Hw, Hh, Hk⟩
  simp only [wp_bind]
  iapply (wp_mid0 𝒱 c bd E q qw m2 m4 m6 m7 m8 lg s w 0 (blkOf x 0) t)
  isplitl [H0]; · iexact H0
  isplitl [Hw]; · iexact Hw
  isplitl [Hh]; · iexact Hh
  iintro H0 Hw Hh
  iapply (wp_mid1 𝒱 c bd E q qw m2 m4 m6 m7 m8 lg s w 1 (blkOf x 1) _)
  isplitl [H1]; · iexact H1
  isplitl [Hw]; · iexact Hw
  isplitl [Hh]; · iexact Hh
  iintro H1 Hw Hh
  iapply (wp_mid0 𝒱 c bd E q qw m2 m4 m6 m7 m8 lg s w 2 (blkOf x 2) _)
  isplitl [H2]; · iexact H2
  isplitl [Hw]; · iexact Hw
  isplitl [Hh]; · iexact Hh
  iintro H2 Hw Hh
  iapply Hk $$ H0 H1 H2 Hw Hh

/-- The second step. -/
theorem wp_stepMid (x : Vec F SBlk .f32) (t : St F) {Q : Done → sProp 𝕄} :
    iprop(owns (c : Thread nD τ) m2 q x ∗ owns (c : Thread nD τ) m4 qw w ∗ held c m6 m7 m8 t
        ∗ (owns (c : Thread nD τ) m2 q x -∗ owns (c : Thread nD τ) m4 qw w -∗ held c m6 m7 m8 (stMid lg s w (blkOf x) t) -∗ Q .done))
      ⊢ wp frame (wpE defs 𝒱 (c : Thread nD τ) bd) E (stepMid m2 m4 m6 m7 m8 lg s) Q := by
  rw [owns_blks c q m2 x]
  iintro ⟨⟨H0, H1, H2, H3⟩, Hw, Hh, Hk⟩
  unfold stepMid stMid
  iapply (wp_three 𝒱 c bd E q qw m2 m4 m6 m7 m8 lg s w x t _)
  isplitl [H0]; · iexact H0
  isplitl [H1]; · iexact H1
  isplitl [H2]; · iexact H2
  isplitl [Hw]; · iexact Hw
  isplitl [Hh]; · iexact Hh
  iintro H0 H1 H2 Hw Hh
  iapply (wp_mid1 𝒱 c bd E q qw m2 m4 m6 m7 m8 lg s w 3 (blkOf x 3) _)
  isplitl [H3]; · iexact H3
  isplitl [Hw]; · iexact Hw
  isplitl [Hh]; · iexact Hh
  iintro H3 Hw Hh
  iapply Hk $$ [H0 H1 H2 H3] Hw Hh
  isplitl [H0]; · iexact H0
  isplitl [H1]; · iexact H1
  isplitl [H2]; · iexact H2
  iexact H3

/-- The third step. -/
theorem wp_stepLast (x : Vec F SBlk .f32) (t : St F) {Q : Done → sProp 𝕄} :
    iprop(owns (c : Thread nD τ) m2 q x ∗ owns (c : Thread nD τ) m4 qw w ∗ held c m6 m7 m8 t
        ∗ (owns (c : Thread nD τ) m2 q x -∗ owns (c : Thread nD τ) m4 qw w -∗ held c m6 m7 m8 (stLast lg s w (blkOf x) t) -∗ Q .done))
      ⊢ wp frame (wpE defs 𝒱 (c : Thread nD τ) bd) E (stepLast m2 m4 m6 m7 m8 lg s) Q := by
  rw [owns_blks c q m2 x]
  iintro ⟨⟨H0, H1, H2, H3⟩, Hw, Hh, Hk⟩
  unfold stepLast stLast
  iapply (wp_three 𝒱 c bd E q qw m2 m4 m6 m7 m8 lg s w x t _)
  isplitl [H0]; · iexact H0
  isplitl [H1]; · iexact H1
  isplitl [H2]; · iexact H2
  isplitl [Hw]; · iexact Hw
  isplitl [Hh]; · iexact Hh
  iintro H0 H1 H2 Hw Hh
  iapply (wp_fin1 𝒱 c bd E q qw m2 m4 m6 m7 m8 lg s w 3 (blkOf x 3) _)
  isplitl [H3]; · iexact H3
  isplitl [Hw]; · iexact Hw
  isplitl [Hh]; · iexact Hh
  iintro H3 Hw Hh
  iapply Hk $$ [H0 H1 H2 H3] Hw Hh
  isplitl [H0]; · iexact H0
  isplitl [H1]; · iexact H1
  isplitl [H2]; · iexact H2
  iexact H3

end Step

end Cert.Attn
-- ==== Proof.KernelIdeal.Cuts.lean ====
/-
  The printed body is the passes of `Prg.lean`: its windows are a cut by count, so the few windows that hold the end
  of one application and the start of the next are cut there, and each application is then its windows in a row.
-/
module

public import proofs.«01_k».proof.Proof.Prg
public import proofs.«01_k».proof.Proof.Gen.KernelIdeal.Frame

@[expose] public section

set_option maxRecDepth 65536

noncomputable section

namespace Cert.KernelIdeal.Gen

open Idealize.ShloMosaic Idealize.SL.Sem
open Facts₀ Facts

variable {F : FTy → Type} [FloatOps F] [Named F]

/-- The base-two logarithm of `e`, as the program writes it. -/
abbrev lg : F .f32 := Named.named κ "log2e" 0x3FB8AA3B#32

/-- Window 25 up to the end of one application. -/
def end25 (arg2 : Memref sig .tc .vmem S4x1x64x64x256 .f32) (arg6 : Memref sig .tc .vmem S1x64x64x256 .f32) (arg7 arg8 : Memref sig .tc .vmem S2x4096x128 .f32) (v394 : FVec F S8x64x256 .f32) (v396 : FVec F S8x64x256 .f32) : Prog (TpuEff nD τ sig (Elt F) Λ₀ .tc) PUnit := do
  let v397 : Memref sig .tc .vmem S1x1x64x64x256 .f32 := arg2.slice (Rect.unit (s := S4x1x64x64x256) ![0, 0, 0, 0, 0] S1x1x64x64x256.size inb_S4x1x64x64x256_S1x1x64x64x256_0_0_0_0_0) (fun _ => rfl)
  let v398 : Memref sig .tc .vmem S64x64x256 .f32 := v397.squeeze S64x64x256 squeezes_S1x1x64x64x256_S64x64x256
  let v399 : Vec F S8x64x256 .f32 ← Prog.lift (.load v398 (Rect.unit (s := S64x64x256) ![56, 0, 0] S8x64x256.size inb_S64x64x256_S8x64x256_56_0_0).toLoadRect (View.loadsAt_vmem h_S8x64x256))
  have v400 : FVec F S8x64x256 .f32 := shapeCast S8x64x256 v399 shapeCasts_S8x64x256_S8x64x256
  have v401 : FVec F S8x64x256 .f32 := mulf v400 v394
  have v402 : FVec F S8x64x256 .f32 := addf v396 v401
  let v403 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
  have v404 : FVec F S8x64x256 .f32 := shapeCast S8x64x256 v403 shapeCasts_S1x8x64x256_S8x64x256
  have v405 : FVec F S1x8x64x256 .f32 := shapeCast S1x8x64x256 v402 shapeCasts_S8x64x256_S1x8x64x256
  Prog.lift (.store arg6 (Rect.unit (s := S1x64x64x256) ![0, 56, 0, 0] S1x8x64x256.size inb_S1x64x64x256_S1x8x64x256_0_56_0_0) v405 Finset.univ (View.stores_vmem_bits_univ h_S1x8x64x256 rfl) (.inl rfl))

/-- Window 25 from the start of the next. -/
def start25 (arg2 : Memref sig .tc .vmem S4x1x64x64x256 .f32) (arg4 : Memref sig .tc .vmem S256x128 .bf16) (arg7 : Memref sig .tc .vmem S2x4096x128 .f32) : Prog (TpuEff nD τ sig (Elt F) Λ₀ .tc) ((Σ' (v413 : FVec F S512x256 .f32), FVec F S512x256 .f32)) := do
  have cst_375 : F .f32 := Scalar.ofBits .f32 0x00000000#32
  have v406 : FVec F S512x256 .f32 := broadcast S512x256 cst_375
  have cst_376 : F .f32 := Scalar.ofBits .f32 0x00000000#32
  have v407 : FVec F S512x256 .f32 := broadcast S512x256 cst_376
  let v408 : Memref sig .tc .vmem S1x1x64x64x256 .f32 := arg2.slice (Rect.unit (s := S4x1x64x64x256) ![1, 0, 0, 0, 0] S1x1x64x64x256.size inb_S4x1x64x64x256_S1x1x64x64x256_1_0_0_0_0) (fun _ => rfl)
  let v409 : Memref sig .tc .vmem S64x64x256 .f32 := v408.squeeze S64x64x256 squeezes_S1x1x64x64x256_S64x64x256
  let v410 : Vec F S8x64x256 .f32 ← Prog.lift (.load v409 (Rect.unit (s := S64x64x256) ![0, 0, 0] S8x64x256.size inb_S64x64x256_S8x64x256_0_0_0).toLoadRect (View.loadsAt_vmem h_S8x64x256))
  have v411 : FVec F S8x64x256 .f32 := shapeCast S8x64x256 v410 shapeCasts_S8x64x256_S8x64x256
  have v412 : FVec F S512x256 .f32 := shapeCast S512x256 v411 shapeCasts_S8x64x256_S512x256
  have v413 : FVec F S512x256 .f32 := addf v406 v412
  have v414 : FVec F S512x256 .f32 := mulf v412 v412
  have v415 : FVec F S512x256 .f32 := addf v407 v414
  have v416 : FVec F S512x256 .bf16 := truncf .bf16 v412 bitsLt_bf16_f32
  let v417 : Vec F S256x128 .bf16 ← Prog.lift (.load arg4 (Rect.unit (s := S256x128) ![0, 0] S256x128.size inb_S256x128_S256x128_0_0).toLoadRect (View.loadsAt_vmem h_S256x128))
  have v418 : FVec F S256x128 .bf16 := shapeCast S256x128 v417 shapeCasts_S256x128_S256x128
  have cst_386 : FVec F S512x128 .f32 := constant S512x128 .f32 0x00000000#32
  have v419 : FVec F S512x128 .f32 := matmul dot_S512x256_S256x128_S512x128_1_0_0_1_n_n none v416 v418 cst_386
  let v420 : Memref sig .tc .vmem S1x4096x128 .f32 := arg7.slice (Rect.unit (s := S2x4096x128) ![1, 0, 0] S1x4096x128.size inb_S2x4096x128_S1x4096x128_1_0_0) (fun _ => rfl)
  let v421 : Memref sig .tc .vmem S4096x128 .f32 := v420.squeeze S4096x128 squeezes_S1x4096x128_S4096x128
  let v422 : Vec F S512x128 .f32 ← Prog.lift (.load v421 (Rect.unit (s := S4096x128) ![0, 0] S512x128.size inb_S4096x128_S512x128_0_0).toLoadRect (View.loadsAt_vmem h_S512x128))
  have v423 : FVec F S512x128 .f32 := shapeCast S512x128 v422 shapeCasts_S512x128_S512x128
  have v424 : FVec F S512x128 .f32 := shapeCast S512x128 v419 shapeCasts_S512x128_S512x128
  Prog.lift (.store v421 (Rect.unit (s := S4096x128) ![0, 0] S512x128.size inb_S4096x128_S512x128_0_0) v424 Finset.univ (View.stores_vmem_bits_univ h_S512x128 rfl) (.inl rfl))
  pure ⟨v413, v415⟩

/-- Window 38 up to the end of one application. -/
def end38 (arg2 : Memref sig .tc .vmem S4x1x64x64x256 .f32) (arg6 : Memref sig .tc .vmem S1x64x64x256 .f32) (arg7 arg8 : Memref sig .tc .vmem S2x4096x128 .f32) (v777 : FVec F S512x128 .f32) : Prog (TpuEff nD τ sig (Elt F) Λ₀ .tc) PUnit := do
  let v778 : Memref sig .tc .vmem S1x4096x128 .f32 := arg8.slice (Rect.unit (s := S2x4096x128) ![1, 0, 0] S1x4096x128.size inb_S2x4096x128_S1x4096x128_1_0_0) (fun _ => rfl)
  let v779 : Memref sig .tc .vmem S4096x128 .f32 := v778.squeeze S4096x128 squeezes_S1x4096x128_S4096x128
  let v780 : Vec F S512x128 .f32 ← Prog.lift (.load v779 (Rect.unit (s := S4096x128) ![3584, 0] S512x128.size inb_S4096x128_S512x128_3584_0).toLoadRect (View.loadsAt_vmem h_S512x128))
  have v781 : FVec F S512x128 .f32 := addf v780 v777
  let v782 : Memref sig .tc .vmem S1x4096x128 .f32 := arg8.slice (Rect.unit (s := S2x4096x128) ![1, 0, 0] S1x4096x128.size inb_S2x4096x128_S1x4096x128_1_0_0) (fun _ => rfl)
  let v783 : Memref sig .tc .vmem S4096x128 .f32 := v782.squeeze S4096x128 squeezes_S1x4096x128_S4096x128
  let v784 : Vec F S512x128 .f32 ← Prog.lift (.load v783 (Rect.unit (s := S4096x128) ![3584, 0] S512x128.size inb_S4096x128_S512x128_3584_0).toLoadRect (View.loadsAt_vmem h_S512x128))
  have v785 : FVec F S512x128 .f32 := shapeCast S512x128 v784 shapeCasts_S512x128_S512x128
  have v786 : FVec F S512x128 .f32 := shapeCast S512x128 v781 shapeCasts_S512x128_S512x128
  Prog.lift (.store v783 (Rect.unit (s := S4096x128) ![3584, 0] S512x128.size inb_S4096x128_S512x128_3584_0) v786 Finset.univ (View.stores_vmem_bits_univ h_S512x128 rfl) (.inl rfl))
  have v787 : FVec F S512x256 .f32 := concatenate S512x256 1 [⟨S512x128, v777⟩, ⟨S512x128, v777⟩] concatenates_S512x128_S512x128_S512x256_d1
  have v788 : FVec F S8x64x256 .f32 := shapeCast S8x64x256 v787 shapeCasts_S512x256_S8x64x256
  let v789 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
  have v790 : FVec F S8x64x256 .f32 := shapeCast S8x64x256 v789 shapeCasts_S1x8x64x256_S8x64x256
  let v791 : Memref sig .tc .vmem S1x1x64x64x256 .f32 := arg2.slice (Rect.unit (s := S4x1x64x64x256) ![1, 0, 0, 0, 0] S1x1x64x64x256.size inb_S4x1x64x64x256_S1x1x64x64x256_1_0_0_0_0) (fun _ => rfl)
  let v792 : Memref sig .tc .vmem S64x64x256 .f32 := v791.squeeze S64x64x256 squeezes_S1x1x64x64x256_S64x64x256
  let v793 : Vec F S8x64x256 .f32 ← Prog.lift (.load v792 (Rect.unit (s := S64x64x256) ![56, 0, 0] S8x64x256.size inb_S64x64x256_S8x64x256_56_0_0).toLoadRect (View.loadsAt_vmem h_S8x64x256))
  have v794 : FVec F S8x64x256 .f32 := shapeCast S8x64x256 v793 shapeCasts_S8x64x256_S8x64x256
  have v795 : FVec F S8x64x256 .f32 := mulf v794 v788
  have v796 : FVec F S8x64x256 .f32 := addf v790 v795
  let v797 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
  have v798 : FVec F S8x64x256 .f32 := shapeCast S8x64x256 v797 shapeCasts_S1x8x64x256_S8x64x256
  have v799 : FVec F S1x8x64x256 .f32 := shapeCast S1x8x64x256 v796 shapeCasts_S8x64x256_S1x8x64x256
  Prog.lift (.store arg6 (Rect.unit (s := S1x64x64x256) ![0, 56, 0, 0] S1x8x64x256.size inb_S1x64x64x256_S1x8x64x256_0_56_0_0) v799 Finset.univ (View.stores_vmem_bits_univ h_S1x8x64x256 rfl) (.inl rfl))

/-- Window 38 from the start of the next. -/
def start38 (arg2 : Memref sig .tc .vmem S4x1x64x64x256 .f32) (arg4 : Memref sig .tc .vmem S256x128 .bf16) (arg7 : Memref sig .tc .vmem S2x4096x128 .f32) : Prog (TpuEff nD τ sig (Elt F) Λ₀ .tc) ((Σ' (v800 : FVec F S512x256 .f32) (v801 : FVec F S512x256 .f32), FVec F S8x64x256 .f32)) := do
  have cst_758 : F .f32 := Scalar.ofBits .f32 0x00000000#32
  have v800 : FVec F S512x256 .f32 := broadcast S512x256 cst_758
  have cst_759 : F .f32 := Scalar.ofBits .f32 0x00000000#32
  have v801 : FVec F S512x256 .f32 := broadcast S512x256 cst_759
  let v802 : Memref sig .tc .vmem S1x1x64x64x256 .f32 := arg2.slice (Rect.unit (s := S4x1x64x64x256) ![2, 0, 0, 0, 0] S1x1x64x64x256.size inb_S4x1x64x64x256_S1x1x64x64x256_2_0_0_0_0) (fun _ => rfl)
  let v803 : Memref sig .tc .vmem S64x64x256 .f32 := v802.squeeze S64x64x256 squeezes_S1x1x64x64x256_S64x64x256
  let v804 : Vec F S8x64x256 .f32 ← Prog.lift (.load v803 (Rect.unit (s := S64x64x256) ![0, 0, 0] S8x64x256.size inb_S64x64x256_S8x64x256_0_0_0).toLoadRect (View.loadsAt_vmem h_S8x64x256))
  have v805 : FVec F S8x64x256 .f32 := shapeCast S8x64x256 v804 shapeCasts_S8x64x256_S8x64x256
  pure ⟨v800, v801, v805⟩

/-- Window 52 up to the end of one application. -/
def end52 (arg2 : Memref sig .tc .vmem S4x1x64x64x256 .f32) (arg6 : Memref sig .tc .vmem S1x64x64x256 .f32) (arg7 arg8 : Memref sig .tc .vmem S2x4096x128 .f32) (v1190 : FVec F S8x64x256 .f32) : Prog (TpuEff nD τ sig (Elt F) Λ₀ .tc) PUnit := do
  let v1191 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
  have v1192 : FVec F S8x64x256 .f32 := shapeCast S8x64x256 v1191 shapeCasts_S1x8x64x256_S8x64x256
  have v1193 : FVec F S1x8x64x256 .f32 := shapeCast S1x8x64x256 v1190 shapeCasts_S8x64x256_S1x8x64x256
  Prog.lift (.store arg6 (Rect.unit (s := S1x64x64x256) ![0, 56, 0, 0] S1x8x64x256.size inb_S1x64x64x256_S1x8x64x256_0_56_0_0) v1193 Finset.univ (View.stores_vmem_bits_univ h_S1x8x64x256 rfl) (.inl rfl))

/-- Window 52 from the start of the next. -/
def start52 (arg2 : Memref sig .tc .vmem S4x1x64x64x256 .f32) (arg4 : Memref sig .tc .vmem S256x128 .bf16) (arg7 : Memref sig .tc .vmem S2x4096x128 .f32) : Prog (TpuEff nD τ sig (Elt F) Λ₀ .tc) ((Σ' (v1217 : FVec F S512x256 .f32) (v1218 : FVec F S512x256 .f32), FVec F S512x256 .f32)) := do
  have cst_1142 : F .f32 := Scalar.ofBits .f32 0x00000000#32
  have v1194 : FVec F S512x256 .f32 := broadcast S512x256 cst_1142
  have cst_1143 : F .f32 := Scalar.ofBits .f32 0x00000000#32
  have v1195 : FVec F S512x256 .f32 := broadcast S512x256 cst_1143
  let v1196 : Memref sig .tc .vmem S1x1x64x64x256 .f32 := arg2.slice (Rect.unit (s := S4x1x64x64x256) ![3, 0, 0, 0, 0] S1x1x64x64x256.size inb_S4x1x64x64x256_S1x1x64x64x256_3_0_0_0_0) (fun _ => rfl)
  let v1197 : Memref sig .tc .vmem S64x64x256 .f32 := v1196.squeeze S64x64x256 squeezes_S1x1x64x64x256_S64x64x256
  let v1198 : Vec F S8x64x256 .f32 ← Prog.lift (.load v1197 (Rect.unit (s := S64x64x256) ![0, 0, 0] S8x64x256.size inb_S64x64x256_S8x64x256_0_0_0).toLoadRect (View.loadsAt_vmem h_S8x64x256))
  have v1199 : FVec F S8x64x256 .f32 := shapeCast S8x64x256 v1198 shapeCasts_S8x64x256_S8x64x256
  have v1200 : FVec F S512x256 .f32 := shapeCast S512x256 v1199 shapeCasts_S8x64x256_S512x256
  have v1201 : FVec F S512x256 .f32 := addf v1194 v1200
  have v1202 : FVec F S512x256 .f32 := mulf v1200 v1200
  have v1203 : FVec F S512x256 .f32 := addf v1195 v1202
  have v1204 : FVec F S512x256 .bf16 := truncf .bf16 v1200 bitsLt_bf16_f32
  let v1205 : Vec F S256x128 .bf16 ← Prog.lift (.load arg4 (Rect.unit (s := S256x128) ![0, 0] S256x128.size inb_S256x128_S256x128_0_0).toLoadRect (View.loadsAt_vmem h_S256x128))
  have v1206 : FVec F S256x128 .bf16 := shapeCast S256x128 v1205 shapeCasts_S256x128_S256x128
  have cst_1153 : FVec F S512x128 .f32 := constant S512x128 .f32 0x00000000#32
  have v1207 : FVec F S512x128 .f32 := matmul dot_S512x256_S256x128_S512x128_1_0_0_1_n_n none v1204 v1206 cst_1153
  let v1208 : Memref sig .tc .vmem S1x4096x128 .f32 := arg7.slice (Rect.unit (s := S2x4096x128) ![1, 0, 0] S1x4096x128.size inb_S2x4096x128_S1x4096x128_1_0_0) (fun _ => rfl)
  let v1209 : Memref sig .tc .vmem S4096x128 .f32 := v1208.squeeze S4096x128 squeezes_S1x4096x128_S4096x128
  let v1210 : Vec F S512x128 .f32 ← Prog.lift (.load v1209 (Rect.unit (s := S4096x128) ![0, 0] S512x128.size inb_S4096x128_S512x128_0_0).toLoadRect (View.loadsAt_vmem h_S512x128))
  have v1211 : FVec F S512x128 .f32 := shapeCast S512x128 v1210 shapeCasts_S512x128_S512x128
  have v1212 : FVec F S512x128 .f32 := shapeCast S512x128 v1207 shapeCasts_S512x128_S512x128
  Prog.lift (.store v1209 (Rect.unit (s := S4096x128) ![0, 0] S512x128.size inb_S4096x128_S512x128_0_0) v1212 Finset.univ (View.stores_vmem_bits_univ h_S512x128 rfl) (.inl rfl))
  let v1213 : Memref sig .tc .vmem S1x1x64x64x256 .f32 := arg2.slice (Rect.unit (s := S4x1x64x64x256) ![3, 0, 0, 0, 0] S1x1x64x64x256.size inb_S4x1x64x64x256_S1x1x64x64x256_3_0_0_0_0) (fun _ => rfl)
  let v1214 : Memref sig .tc .vmem S64x64x256 .f32 := v1213.squeeze S64x64x256 squeezes_S1x1x64x64x256_S64x64x256
  let v1215 : Vec F S8x64x256 .f32 ← Prog.lift (.load v1214 (Rect.unit (s := S64x64x256) ![8, 0, 0] S8x64x256.size inb_S64x64x256_S8x64x256_8_0_0).toLoadRect (View.loadsAt_vmem h_S8x64x256))
  have v1216 : FVec F S8x64x256 .f32 := shapeCast S8x64x256 v1215 shapeCasts_S8x64x256_S8x64x256
  have v1217 : FVec F S512x256 .f32 := shapeCast S512x256 v1216 shapeCasts_S8x64x256_S512x256
  have v1218 : FVec F S512x256 .f32 := addf v1201 v1217
  have v1219 : FVec F S512x256 .f32 := mulf v1217 v1217
  have v1220 : FVec F S512x256 .f32 := addf v1203 v1219
  pure ⟨v1217, v1218, v1220⟩

/-- Window 79 up to the end of one application. -/
def end79 (arg2 : Memref sig .tc .vmem S4x1x64x64x256 .f32) (arg6 : Memref sig .tc .vmem S1x64x64x256 .f32) (arg7 arg8 : Memref sig .tc .vmem S2x4096x128 .f32) (v394 : FVec F S8x64x256 .f32) (v396 : FVec F S8x64x256 .f32) : Prog (TpuEff nD τ sig (Elt F) Λ₀ .tc) PUnit := do
  let v397 : Memref sig .tc .vmem S1x1x64x64x256 .f32 := arg2.slice (Rect.unit (s := S4x1x64x64x256) ![0, 0, 0, 0, 0] S1x1x64x64x256.size inb_S4x1x64x64x256_S1x1x64x64x256_0_0_0_0_0) (fun _ => rfl)
  let v398 : Memref sig .tc .vmem S64x64x256 .f32 := v397.squeeze S64x64x256 squeezes_S1x1x64x64x256_S64x64x256
  let v399 : Vec F S8x64x256 .f32 ← Prog.lift (.load v398 (Rect.unit (s := S64x64x256) ![56, 0, 0] S8x64x256.size inb_S64x64x256_S8x64x256_56_0_0).toLoadRect (View.loadsAt_vmem h_S8x64x256))
  have v400 : FVec F S8x64x256 .f32 := shapeCast S8x64x256 v399 shapeCasts_S8x64x256_S8x64x256
  have v401 : FVec F S8x64x256 .f32 := mulf v400 v394
  have v402 : FVec F S8x64x256 .f32 := addf v396 v401
  let v403 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
  have v404 : FVec F S8x64x256 .f32 := shapeCast S8x64x256 v403 shapeCasts_S1x8x64x256_S8x64x256
  have v405 : FVec F S1x8x64x256 .f32 := shapeCast S1x8x64x256 v402 shapeCasts_S8x64x256_S1x8x64x256
  Prog.lift (.store arg6 (Rect.unit (s := S1x64x64x256) ![0, 56, 0, 0] S1x8x64x256.size inb_S1x64x64x256_S1x8x64x256_0_56_0_0) v405 Finset.univ (View.stores_vmem_bits_univ h_S1x8x64x256 rfl) (.inl rfl))

/-- Window 79 from the start of the next. -/
def start79 (arg2 : Memref sig .tc .vmem S4x1x64x64x256 .f32) (arg4 : Memref sig .tc .vmem S256x128 .bf16) (arg7 : Memref sig .tc .vmem S2x4096x128 .f32) : Prog (TpuEff nD τ sig (Elt F) Λ₀ .tc) ((Σ' (v413 : FVec F S512x256 .f32), FVec F S512x256 .f32)) := do
  have cst_375 : F .f32 := Scalar.ofBits .f32 0x00000000#32
  have v406 : FVec F S512x256 .f32 := broadcast S512x256 cst_375
  have cst_376 : F .f32 := Scalar.ofBits .f32 0x00000000#32
  have v407 : FVec F S512x256 .f32 := broadcast S512x256 cst_376
  let v408 : Memref sig .tc .vmem S1x1x64x64x256 .f32 := arg2.slice (Rect.unit (s := S4x1x64x64x256) ![1, 0, 0, 0, 0] S1x1x64x64x256.size inb_S4x1x64x64x256_S1x1x64x64x256_1_0_0_0_0) (fun _ => rfl)
  let v409 : Memref sig .tc .vmem S64x64x256 .f32 := v408.squeeze S64x64x256 squeezes_S1x1x64x64x256_S64x64x256
  let v410 : Vec F S8x64x256 .f32 ← Prog.lift (.load v409 (Rect.unit (s := S64x64x256) ![0, 0, 0] S8x64x256.size inb_S64x64x256_S8x64x256_0_0_0).toLoadRect (View.loadsAt_vmem h_S8x64x256))
  have v411 : FVec F S8x64x256 .f32 := shapeCast S8x64x256 v410 shapeCasts_S8x64x256_S8x64x256
  have v412 : FVec F S512x256 .f32 := shapeCast S512x256 v411 shapeCasts_S8x64x256_S512x256
  have v413 : FVec F S512x256 .f32 := addf v406 v412
  have v414 : FVec F S512x256 .f32 := mulf v412 v412
  have v415 : FVec F S512x256 .f32 := addf v407 v414
  have v416 : FVec F S512x256 .bf16 := truncf .bf16 v412 bitsLt_bf16_f32
  let v417 : Vec F S256x128 .bf16 ← Prog.lift (.load arg4 (Rect.unit (s := S256x128) ![0, 0] S256x128.size inb_S256x128_S256x128_0_0).toLoadRect (View.loadsAt_vmem h_S256x128))
  have v418 : FVec F S256x128 .bf16 := shapeCast S256x128 v417 shapeCasts_S256x128_S256x128
  have cst_386 : FVec F S512x128 .f32 := constant S512x128 .f32 0x00000000#32
  have v419 : FVec F S512x128 .f32 := matmul dot_S512x256_S256x128_S512x128_1_0_0_1_n_n none v416 v418 cst_386
  let v420 : Memref sig .tc .vmem S1x4096x128 .f32 := arg7.slice (Rect.unit (s := S2x4096x128) ![1, 0, 0] S1x4096x128.size inb_S2x4096x128_S1x4096x128_1_0_0) (fun _ => rfl)
  let v421 : Memref sig .tc .vmem S4096x128 .f32 := v420.squeeze S4096x128 squeezes_S1x4096x128_S4096x128
  let v422 : Vec F S512x128 .f32 ← Prog.lift (.load v421 (Rect.unit (s := S4096x128) ![0, 0] S512x128.size inb_S4096x128_S512x128_0_0).toLoadRect (View.loadsAt_vmem h_S512x128))
  have v423 : FVec F S512x128 .f32 := shapeCast S512x128 v422 shapeCasts_S512x128_S512x128
  have v424 : FVec F S512x128 .f32 := shapeCast S512x128 v419 shapeCasts_S512x128_S512x128
  Prog.lift (.store v421 (Rect.unit (s := S4096x128) ![0, 0] S512x128.size inb_S4096x128_S512x128_0_0) v424 Finset.univ (View.stores_vmem_bits_univ h_S512x128 rfl) (.inl rfl))
  pure ⟨v413, v415⟩

/-- Window 92 up to the end of one application. -/
def end92 (arg2 : Memref sig .tc .vmem S4x1x64x64x256 .f32) (arg6 : Memref sig .tc .vmem S1x64x64x256 .f32) (arg7 arg8 : Memref sig .tc .vmem S2x4096x128 .f32) (v777 : FVec F S512x128 .f32) : Prog (TpuEff nD τ sig (Elt F) Λ₀ .tc) PUnit := do
  let v778 : Memref sig .tc .vmem S1x4096x128 .f32 := arg8.slice (Rect.unit (s := S2x4096x128) ![1, 0, 0] S1x4096x128.size inb_S2x4096x128_S1x4096x128_1_0_0) (fun _ => rfl)
  let v779 : Memref sig .tc .vmem S4096x128 .f32 := v778.squeeze S4096x128 squeezes_S1x4096x128_S4096x128
  let v780 : Vec F S512x128 .f32 ← Prog.lift (.load v779 (Rect.unit (s := S4096x128) ![3584, 0] S512x128.size inb_S4096x128_S512x128_3584_0).toLoadRect (View.loadsAt_vmem h_S512x128))
  have v781 : FVec F S512x128 .f32 := addf v780 v777
  let v782 : Memref sig .tc .vmem S1x4096x128 .f32 := arg8.slice (Rect.unit (s := S2x4096x128) ![1, 0, 0] S1x4096x128.size inb_S2x4096x128_S1x4096x128_1_0_0) (fun _ => rfl)
  let v783 : Memref sig .tc .vmem S4096x128 .f32 := v782.squeeze S4096x128 squeezes_S1x4096x128_S4096x128
  let v784 : Vec F S512x128 .f32 ← Prog.lift (.load v783 (Rect.unit (s := S4096x128) ![3584, 0] S512x128.size inb_S4096x128_S512x128_3584_0).toLoadRect (View.loadsAt_vmem h_S512x128))
  have v785 : FVec F S512x128 .f32 := shapeCast S512x128 v784 shapeCasts_S512x128_S512x128
  have v786 : FVec F S512x128 .f32 := shapeCast S512x128 v781 shapeCasts_S512x128_S512x128
  Prog.lift (.store v783 (Rect.unit (s := S4096x128) ![3584, 0] S512x128.size inb_S4096x128_S512x128_3584_0) v786 Finset.univ (View.stores_vmem_bits_univ h_S512x128 rfl) (.inl rfl))
  have v787 : FVec F S512x256 .f32 := concatenate S512x256 1 [⟨S512x128, v777⟩, ⟨S512x128, v777⟩] concatenates_S512x128_S512x128_S512x256_d1
  have v788 : FVec F S8x64x256 .f32 := shapeCast S8x64x256 v787 shapeCasts_S512x256_S8x64x256
  let v789 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
  have v790 : FVec F S8x64x256 .f32 := shapeCast S8x64x256 v789 shapeCasts_S1x8x64x256_S8x64x256
  let v791 : Memref sig .tc .vmem S1x1x64x64x256 .f32 := arg2.slice (Rect.unit (s := S4x1x64x64x256) ![1, 0, 0, 0, 0] S1x1x64x64x256.size inb_S4x1x64x64x256_S1x1x64x64x256_1_0_0_0_0) (fun _ => rfl)
  let v792 : Memref sig .tc .vmem S64x64x256 .f32 := v791.squeeze S64x64x256 squeezes_S1x1x64x64x256_S64x64x256
  let v793 : Vec F S8x64x256 .f32 ← Prog.lift (.load v792 (Rect.unit (s := S64x64x256) ![56, 0, 0] S8x64x256.size inb_S64x64x256_S8x64x256_56_0_0).toLoadRect (View.loadsAt_vmem h_S8x64x256))
  have v794 : FVec F S8x64x256 .f32 := shapeCast S8x64x256 v793 shapeCasts_S8x64x256_S8x64x256
  have v795 : FVec F S8x64x256 .f32 := mulf v794 v788
  have v796 : FVec F S8x64x256 .f32 := addf v790 v795
  let v797 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
  have v798 : FVec F S8x64x256 .f32 := shapeCast S8x64x256 v797 shapeCasts_S1x8x64x256_S8x64x256
  have v799 : FVec F S1x8x64x256 .f32 := shapeCast S1x8x64x256 v796 shapeCasts_S8x64x256_S1x8x64x256
  Prog.lift (.store arg6 (Rect.unit (s := S1x64x64x256) ![0, 56, 0, 0] S1x8x64x256.size inb_S1x64x64x256_S1x8x64x256_0_56_0_0) v799 Finset.univ (View.stores_vmem_bits_univ h_S1x8x64x256 rfl) (.inl rfl))

/-- Window 92 from the start of the next. -/
def start92 (arg2 : Memref sig .tc .vmem S4x1x64x64x256 .f32) (arg4 : Memref sig .tc .vmem S256x128 .bf16) (arg7 : Memref sig .tc .vmem S2x4096x128 .f32) : Prog (TpuEff nD τ sig (Elt F) Λ₀ .tc) ((Σ' (v800 : FVec F S512x256 .f32) (v801 : FVec F S512x256 .f32), FVec F S8x64x256 .f32)) := do
  have cst_758 : F .f32 := Scalar.ofBits .f32 0x00000000#32
  have v800 : FVec F S512x256 .f32 := broadcast S512x256 cst_758
  have cst_759 : F .f32 := Scalar.ofBits .f32 0x00000000#32
  have v801 : FVec F S512x256 .f32 := broadcast S512x256 cst_759
  let v802 : Memref sig .tc .vmem S1x1x64x64x256 .f32 := arg2.slice (Rect.unit (s := S4x1x64x64x256) ![2, 0, 0, 0, 0] S1x1x64x64x256.size inb_S4x1x64x64x256_S1x1x64x64x256_2_0_0_0_0) (fun _ => rfl)
  let v803 : Memref sig .tc .vmem S64x64x256 .f32 := v802.squeeze S64x64x256 squeezes_S1x1x64x64x256_S64x64x256
  let v804 : Vec F S8x64x256 .f32 ← Prog.lift (.load v803 (Rect.unit (s := S64x64x256) ![0, 0, 0] S8x64x256.size inb_S64x64x256_S8x64x256_0_0_0).toLoadRect (View.loadsAt_vmem h_S8x64x256))
  have v805 : FVec F S8x64x256 .f32 := shapeCast S8x64x256 v804 shapeCasts_S8x64x256_S8x64x256
  pure ⟨v800, v801, v805⟩

/-- Window 106 up to the end of one application. -/
def end106 (arg2 : Memref sig .tc .vmem S4x1x64x64x256 .f32) (arg6 : Memref sig .tc .vmem S1x64x64x256 .f32) (arg7 arg8 : Memref sig .tc .vmem S2x4096x128 .f32) (v1190 : FVec F S8x64x256 .f32) : Prog (TpuEff nD τ sig (Elt F) Λ₀ .tc) PUnit := do
  let v1191 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
  have v1192 : FVec F S8x64x256 .f32 := shapeCast S8x64x256 v1191 shapeCasts_S1x8x64x256_S8x64x256
  have v1193 : FVec F S1x8x64x256 .f32 := shapeCast S1x8x64x256 v1190 shapeCasts_S8x64x256_S1x8x64x256
  Prog.lift (.store arg6 (Rect.unit (s := S1x64x64x256) ![0, 56, 0, 0] S1x8x64x256.size inb_S1x64x64x256_S1x8x64x256_0_56_0_0) v1193 Finset.univ (View.stores_vmem_bits_univ h_S1x8x64x256 rfl) (.inl rfl))

/-- Window 106 from the start of the next. -/
def start106 (arg2 : Memref sig .tc .vmem S4x1x64x64x256 .f32) (arg4 : Memref sig .tc .vmem S256x128 .bf16) (arg7 : Memref sig .tc .vmem S2x4096x128 .f32) : Prog (TpuEff nD τ sig (Elt F) Λ₀ .tc) ((Σ' (v1217 : FVec F S512x256 .f32) (v1218 : FVec F S512x256 .f32), FVec F S512x256 .f32)) := do
  have cst_1142 : F .f32 := Scalar.ofBits .f32 0x00000000#32
  have v1194 : FVec F S512x256 .f32 := broadcast S512x256 cst_1142
  have cst_1143 : F .f32 := Scalar.ofBits .f32 0x00000000#32
  have v1195 : FVec F S512x256 .f32 := broadcast S512x256 cst_1143
  let v1196 : Memref sig .tc .vmem S1x1x64x64x256 .f32 := arg2.slice (Rect.unit (s := S4x1x64x64x256) ![3, 0, 0, 0, 0] S1x1x64x64x256.size inb_S4x1x64x64x256_S1x1x64x64x256_3_0_0_0_0) (fun _ => rfl)
  let v1197 : Memref sig .tc .vmem S64x64x256 .f32 := v1196.squeeze S64x64x256 squeezes_S1x1x64x64x256_S64x64x256
  let v1198 : Vec F S8x64x256 .f32 ← Prog.lift (.load v1197 (Rect.unit (s := S64x64x256) ![0, 0, 0] S8x64x256.size inb_S64x64x256_S8x64x256_0_0_0).toLoadRect (View.loadsAt_vmem h_S8x64x256))
  have v1199 : FVec F S8x64x256 .f32 := shapeCast S8x64x256 v1198 shapeCasts_S8x64x256_S8x64x256
  have v1200 : FVec F S512x256 .f32 := shapeCast S512x256 v1199 shapeCasts_S8x64x256_S512x256
  have v1201 : FVec F S512x256 .f32 := addf v1194 v1200
  have v1202 : FVec F S512x256 .f32 := mulf v1200 v1200
  have v1203 : FVec F S512x256 .f32 := addf v1195 v1202
  have v1204 : FVec F S512x256 .bf16 := truncf .bf16 v1200 bitsLt_bf16_f32
  let v1205 : Vec F S256x128 .bf16 ← Prog.lift (.load arg4 (Rect.unit (s := S256x128) ![0, 0] S256x128.size inb_S256x128_S256x128_0_0).toLoadRect (View.loadsAt_vmem h_S256x128))
  have v1206 : FVec F S256x128 .bf16 := shapeCast S256x128 v1205 shapeCasts_S256x128_S256x128
  have cst_1153 : FVec F S512x128 .f32 := constant S512x128 .f32 0x00000000#32
  have v1207 : FVec F S512x128 .f32 := matmul dot_S512x256_S256x128_S512x128_1_0_0_1_n_n none v1204 v1206 cst_1153
  let v1208 : Memref sig .tc .vmem S1x4096x128 .f32 := arg7.slice (Rect.unit (s := S2x4096x128) ![1, 0, 0] S1x4096x128.size inb_S2x4096x128_S1x4096x128_1_0_0) (fun _ => rfl)
  let v1209 : Memref sig .tc .vmem S4096x128 .f32 := v1208.squeeze S4096x128 squeezes_S1x4096x128_S4096x128
  let v1210 : Vec F S512x128 .f32 ← Prog.lift (.load v1209 (Rect.unit (s := S4096x128) ![0, 0] S512x128.size inb_S4096x128_S512x128_0_0).toLoadRect (View.loadsAt_vmem h_S512x128))
  have v1211 : FVec F S512x128 .f32 := shapeCast S512x128 v1210 shapeCasts_S512x128_S512x128
  have v1212 : FVec F S512x128 .f32 := shapeCast S512x128 v1207 shapeCasts_S512x128_S512x128
  Prog.lift (.store v1209 (Rect.unit (s := S4096x128) ![0, 0] S512x128.size inb_S4096x128_S512x128_0_0) v1212 Finset.univ (View.stores_vmem_bits_univ h_S512x128 rfl) (.inl rfl))
  let v1213 : Memref sig .tc .vmem S1x1x64x64x256 .f32 := arg2.slice (Rect.unit (s := S4x1x64x64x256) ![3, 0, 0, 0, 0] S1x1x64x64x256.size inb_S4x1x64x64x256_S1x1x64x64x256_3_0_0_0_0) (fun _ => rfl)
  let v1214 : Memref sig .tc .vmem S64x64x256 .f32 := v1213.squeeze S64x64x256 squeezes_S1x1x64x64x256_S64x64x256
  let v1215 : Vec F S8x64x256 .f32 ← Prog.lift (.load v1214 (Rect.unit (s := S64x64x256) ![8, 0, 0] S8x64x256.size inb_S64x64x256_S8x64x256_8_0_0).toLoadRect (View.loadsAt_vmem h_S8x64x256))
  have v1216 : FVec F S8x64x256 .f32 := shapeCast S8x64x256 v1215 shapeCasts_S8x64x256_S8x64x256
  have v1217 : FVec F S512x256 .f32 := shapeCast S512x256 v1216 shapeCasts_S8x64x256_S512x256
  have v1218 : FVec F S512x256 .f32 := addf v1201 v1217
  have v1219 : FVec F S512x256 .f32 := mulf v1217 v1217
  have v1220 : FVec F S512x256 .f32 := addf v1203 v1219
  pure ⟨v1217, v1218, v1220⟩

variable (i : grid0.Coords) (arg2 : Memref sig .tc .vmem S4x1x64x64x256 .f32) (harg2 : arg2.IsWhole) (arg3 : Memref sig .tc .vmem S1x64x64x256 .f32) (harg3 : arg3.IsWhole) (arg4 : Memref sig .tc .vmem S256x128 .bf16) (harg4 : arg4.IsWhole) (arg5 : Memref sig .tc .smem S1x1 .f32) (harg5 : arg5.IsWhole) (arg6 : Memref sig .tc .vmem S1x64x64x256 .f32) (harg6 : arg6.IsWhole) (arg7 : Memref sig .tc .vmem S2x4096x128 .f32) (harg7 : arg7.IsWhole) (arg8 : Memref sig .tc .vmem S2x4096x128 .f32) (harg8 : arg8.IsWhole)

theorem cut25 (v394 : FVec F S8x64x256 .f32) (v396 : FVec F S8x64x256 .f32) : k0_part25 (F := F) i arg2 harg2 arg3 harg3 arg4 harg4 arg5 harg5 arg6 harg6 arg7 harg7 arg8 harg8 v394 v396 = (do
    end25 arg2 arg6 arg7 arg8 v394 v396
    start25 arg2 arg4 arg7) := rfl

theorem cut38 (v777 : FVec F S512x128 .f32) : k0_part38 (F := F) i arg2 harg2 arg3 harg3 arg4 harg4 arg5 harg5 arg6 harg6 arg7 harg7 arg8 harg8 v777 = (do
    end38 arg2 arg6 arg7 arg8 v777
    start38 arg2 arg4 arg7) := rfl

theorem cut52 (v1190 : FVec F S8x64x256 .f32) : k0_part52 (F := F) i arg2 harg2 arg3 harg3 arg4 harg4 arg5 harg5 arg6 harg6 arg7 harg7 arg8 harg8 v1190 = (do
    end52 arg2 arg6 arg7 arg8 v1190
    start52 arg2 arg4 arg7) := rfl

theorem cut79 (v394 : FVec F S8x64x256 .f32) (v396 : FVec F S8x64x256 .f32) : k0_part79 (F := F) i arg2 harg2 arg3 harg3 arg4 harg4 arg5 harg5 arg6 harg6 arg7 harg7 arg8 harg8 v394 v396 = (do
    end79 arg2 arg6 arg7 arg8 v394 v396
    start79 arg2 arg4 arg7) := rfl

theorem cut92 (v777 : FVec F S512x128 .f32) : k0_part92 (F := F) i arg2 harg2 arg3 harg3 arg4 harg4 arg5 harg5 arg6 harg6 arg7 harg7 arg8 harg8 v777 = (do
    end92 arg2 arg6 arg7 arg8 v777
    start92 arg2 arg4 arg7) := rfl

theorem cut106 (v1190 : FVec F S8x64x256 .f32) : k0_part106 (F := F) i arg2 harg2 arg3 harg3 arg4 harg4 arg5 harg5 arg6 harg6 arg7 harg7 arg8 harg8 v1190 = (do
    end106 arg2 arg6 arg7 arg8 v1190
    start106 arg2 arg4 arg7) := rfl

theorem seg0 (v0 : F .f32) (K : Prog (TpuEff nD τ sig (Elt F) Λ₀ .tc) PUnit) : (do
    let ⟨v36, v38, v39, v41, cst_32⟩ : Σ' (v36 : FVec F S512x256 .f32) (v38 : FVec F S512x256 .f32) (v39 : FVec F S512x256 .bf16) (v41 : FVec F S256x128 .bf16), FVec F S512x128 .f32 ← k0_part12 i arg2 harg2 arg3 harg3 arg4 harg4 arg5 harg5 arg6 harg6 arg7 harg7 arg8 harg8
    let ⟨v55, v69, v70⟩ : Σ' (v55 : FVec F S512x256 .f32) (v69 : FVec F S512x256 .f32), FVec F S512x256 .f32 ← k0_part13 i arg2 harg2 arg3 harg3 arg4 harg4 arg5 harg5 arg6 harg6 arg7 harg7 arg8 harg8 v36 v38 v39 v41 cst_32
    let ⟨v87, v89⟩ : Σ' (v87 : FVec F S512x256 .f32), FVec F S512x256 .f32 ← k0_part14 i arg2 harg2 arg3 harg3 arg4 harg4 arg5 harg5 arg6 harg6 arg7 harg7 arg8 harg8 v55 v69 v70
    let ⟨v121, v123, v127⟩ : Σ' (v121 : FVec F S512x256 .f32) (v123 : FVec F S512x256 .f32), FVec F S512x128 .f32 ← k0_part15 i arg2 harg2 arg3 harg3 arg4 harg4 arg5 harg5 arg6 harg6 arg7 harg7 arg8 harg8 v87 v89
    let ⟨v164, v165⟩ : Σ' (v164 : F .f32), F .f32 ← k0_part16 i arg2 harg2 arg3 harg3 arg4 harg4 arg5 harg5 arg6 harg6 arg7 harg7 arg8 harg8 v0 v121 v123 v127
    let v195 : FVec F S1x8x64x256 .f32 ← k0_part17 i arg2 harg2 arg3 harg3 arg4 harg4 arg5 harg5 arg6 harg6 arg7 harg7 arg8 harg8 v164 v165
    let v222 : FVec F S8x64x256 .f32 ← k0_part18 i arg2 harg2 arg3 harg3 arg4 harg4 arg5 harg5 arg6 harg6 arg7 harg7 arg8 harg8 v164 v165 v195
    let v252 : FVec F S8x64x256 .f32 ← k0_part19 i arg2 harg2 arg3 harg3 arg4 harg4 arg5 harg5 arg6 harg6 arg7 harg7 arg8 harg8 v164 v165 v222
    let ⟨v274, v276, v280⟩ : Σ' (v274 : FVec F S8x64x256 .f32) (v276 : FVec F S8x64x256 .f32), FVec F S8x64x256 .f32 ← k0_part20 i arg2 harg2 arg3 harg3 arg4 harg4 arg5 harg5 arg6 harg6 arg7 harg7 arg8 harg8 v164 v165 v252
    let ⟨v304, v306⟩ : Σ' (v304 : FVec F S8x64x256 .f32), FVec F S8x64x256 .f32 ← k0_part21 i arg2 harg2 arg3 harg3 arg4 harg4 arg5 harg5 arg6 harg6 arg7 harg7 arg8 harg8 v164 v165 v274 v276 v280
    let ⟨v334, v336⟩ : Σ' (v334 : FVec F S8x64x256 .f32), FVec F S8x64x256 .f32 ← k0_part22 i arg2 harg2 arg3 harg3 arg4 harg4 arg5 harg5 arg6 harg6 arg7 harg7 arg8 harg8 v164 v165 v304 v306
    let ⟨v364, v366⟩ : Σ' (v364 : FVec F S8x64x256 .f32), FVec F S8x64x256 .f32 ← k0_part23 i arg2 harg2 arg3 harg3 arg4 harg4 arg5 harg5 arg6 harg6 arg7 harg7 arg8 harg8 v164 v165 v334 v336
    let ⟨v394, v396⟩ : Σ' (v394 : FVec F S8x64x256 .f32), FVec F S8x64x256 .f32 ← k0_part24 i arg2 harg2 arg3 harg3 arg4 harg4 arg5 harg5 arg6 harg6 arg7 harg7 arg8 harg8 v164 v165 v364 v366
    end25 arg2 arg6 arg7 arg8 v394 v396
    K) = (do
    let _ ← Attn.midAt arg2 arg4 arg6 arg7 arg8 lg v0 0 0
    K) := rfl

theorem seg1 (v0 : F .f32) (K : Prog (TpuEff nD τ sig (Elt F) Λ₀ .tc) PUnit) : (do
    let ⟨v413, v415⟩ : Σ' (v413 : FVec F S512x256 .f32), FVec F S512x256 .f32 ← start25 arg2 arg4 arg7
    let ⟨v447, v449, v453⟩ : Σ' (v447 : FVec F S512x256 .f32) (v449 : FVec F S512x256 .f32), FVec F S512x128 .f32 ← k0_part26 i arg2 harg2 arg3 harg3 arg4 harg4 arg5 harg5 arg6 harg6 arg7 harg7 arg8 harg8 v413 v415
    let ⟨v481, v483, v484⟩ : Σ' (v481 : FVec F S512x256 .f32) (v483 : FVec F S512x256 .f32), FVec F S512x256 .bf16 ← k0_part27 i arg2 harg2 arg3 harg3 arg4 harg4 arg5 harg5 arg6 harg6 arg7 harg7 arg8 harg8 v447 v449 v453
    let ⟨v498, v500⟩ : Σ' (v498 : FVec F S512x256 .f32), FVec F S512x256 .f32 ← k0_part28 i arg2 harg2 arg3 harg3 arg4 harg4 arg5 harg5 arg6 harg6 arg7 harg7 arg8 harg8 v481 v483 v484
    let ⟨v534, v544⟩ : Σ' (v534 : FVec F S512x256 .f32), FVec F S1x512x256 .f32 ← k0_part29 i arg2 harg2 arg3 harg3 arg4 harg4 arg5 harg5 arg6 harg6 arg7 harg7 arg8 harg8 v498 v500
    let ⟨v558, v559, v578, v579⟩ : Σ' (v558 : F .f32) (v559 : F .f32) (v578 : FVec F S8x64x256 .f32), Vec F S1x8x64x256 .f32 ← k0_part30 i arg2 harg2 arg3 harg3 arg4 harg4 arg5 harg5 arg6 harg6 arg7 harg7 arg8 harg8 v0 v534 v544
    let v608 : FVec F S8x64x256 .f32 ← k0_part31 i arg2 harg2 arg3 harg3 arg4 harg4 arg5 harg5 arg6 harg6 arg7 harg7 arg8 harg8 v558 v559 v578 v579
    let v637 : FVec F S512x256 .f32 ← k0_part32 i arg2 harg2 arg3 harg3 arg4 harg4 arg5 harg5 arg6 harg6 arg7 harg7 arg8 harg8 v558 v559 v608
    let ⟨v657, v661⟩ : Σ' (v657 : FVec F S512x128 .f32), FVec F S512x128 .f32 ← k0_part33 i arg2 harg2 arg3 harg3 arg4 harg4 arg5 harg5 arg6 harg6 arg7 harg7 arg8 harg8 v558 v559 v637
    let ⟨v687, v691⟩ : Σ' (v687 : FVec F S512x128 .f32), FVec F S512x128 .f32 ← k0_part34 i arg2 harg2 arg3 harg3 arg4 harg4 arg5 harg5 arg6 harg6 arg7 harg7 arg8 harg8 v558 v559 v657 v661
    let ⟨v717, v721⟩ : Σ' (v717 : FVec F S512x128 .f32), FVec F S512x128 .f32 ← k0_part35 i arg2 harg2 arg3 harg3 arg4 harg4 arg5 harg5 arg6 harg6 arg7 harg7 arg8 harg8 v558 v559 v687 v691
    let ⟨v747, v751⟩ : Σ' (v747 : FVec F S512x128 .f32), FVec F S512x128 .f32 ← k0_part36 i arg2 harg2 arg3 harg3 arg4 harg4 arg5 harg5 arg6 harg6 arg7 harg7 arg8 harg8 v558 v559 v717 v721
    let v777 : FVec F S512x128 .f32 ← k0_part37 i arg2 harg2 arg3 harg3 arg4 harg4 arg5 harg5 arg6 harg6 arg7 harg7 arg8 harg8 v558 v559 v747 v751
    end38 arg2 arg6 arg7 arg8 v777
    K) = (do
    let _ ← Attn.midAt arg2 arg4 arg6 arg7 arg8 lg v0 1 1
    K) := rfl

theorem seg2 (v0 : F .f32) (K : Prog (TpuEff nD τ sig (Elt F) Λ₀ .tc) PUnit) : (do
    let ⟨v800, v801, v805⟩ : Σ' (v800 : FVec F S512x256 .f32) (v801 : FVec F S512x256 .f32), FVec F S8x64x256 .f32 ← start38 arg2 arg4 arg7
    let ⟨v824, v826⟩ : Σ' (v824 : FVec F S512x256 .f32), FVec F S512x256 .f32 ← k0_part39 i arg2 harg2 arg3 harg3 arg4 harg4 arg5 harg5 arg6 harg6 arg7 harg7 arg8 harg8 v800 v801 v805
    let ⟨v858, v860, v864⟩ : Σ' (v858 : FVec F S512x256 .f32) (v860 : FVec F S512x256 .f32), FVec F S512x128 .f32 ← k0_part40 i arg2 harg2 arg3 harg3 arg4 harg4 arg5 harg5 arg6 harg6 arg7 harg7 arg8 harg8 v824 v826
    let ⟨v892, v894, v895, v897, cst_850⟩ : Σ' (v892 : FVec F S512x256 .f32) (v894 : FVec F S512x256 .f32) (v895 : FVec F S512x256 .bf16) (v897 : FVec F S256x128 .bf16), FVec F S512x128 .f32 ← k0_part41 i arg2 harg2 arg3 harg3 arg4 harg4 arg5 harg5 arg6 harg6 arg7 harg7 arg8 harg8 v858 v860 v864
    let ⟨v911, v925, v926⟩ : Σ' (v911 : FVec F S512x256 .f32) (v925 : FVec F S512x256 .f32), FVec F S512x256 .f32 ← k0_part42 i arg2 harg2 arg3 harg3 arg4 harg4 arg5 harg5 arg6 harg6 arg7 harg7 arg8 harg8 v892 v894 v895 v897 cst_850
    let ⟨v952, v953, v961⟩ : Σ' (v952 : F .f32) (v953 : F .f32), FVec F S512x128 .f32 ← k0_part43 i arg2 harg2 arg3 harg3 arg4 harg4 arg5 harg5 arg6 harg6 arg7 harg7 arg8 harg8 v0 v911 v925 v926
    let v991 : FVec F S512x128 .f32 ← k0_part44 i arg2 harg2 arg3 harg3 arg4 harg4 arg5 harg5 arg6 harg6 arg7 harg7 arg8 harg8 v952 v953 v961
    let v1020 : FVec F S512x128 .f32 ← k0_part45 i arg2 harg2 arg3 harg3 arg4 harg4 arg5 harg5 arg6 harg6 arg7 harg7 arg8 harg8 v952 v953 v991
    let ⟨v1046, v1047⟩ : Σ' (v1046 : Vec F S512x128 .f32), FVec F S512x128 .f32 ← k0_part46 i arg2 harg2 arg3 harg3 arg4 harg4 arg5 harg5 arg6 harg6 arg7 harg7 arg8 harg8 v953 v1020
    k0_part47 i arg2 harg2 arg3 harg3 arg4 harg4 arg5 harg5 arg6 harg6 arg7 harg7 arg8 harg8 v952 v1046 v1047
    k0_part48 i arg2 harg2 arg3 harg3 arg4 harg4 arg5 harg5 arg6 harg6 arg7 harg7 arg8 harg8 v952 v953
    k0_part49 i arg2 harg2 arg3 harg3 arg4 harg4 arg5 harg5 arg6 harg6 arg7 harg7 arg8 harg8 v952 v953
    let ⟨v1160, v1161⟩ : Σ' (v1160 : FVec F S8x64x256 .f32), Vec F S1x8x64x256 .f32 ← k0_part50 i arg2 harg2 arg3 harg3 arg4 harg4 arg5 harg5 arg6 harg6 arg7 harg7 arg8 harg8 v952 v953
    let v1190 : FVec F S8x64x256 .f32 ← k0_part51 i arg2 harg2 arg3 harg3 arg4 harg4 arg5 harg5 arg6 harg6 arg7 harg7 arg8 harg8 v952 v953 v1160 v1161
    end52 arg2 arg6 arg7 arg8 v1190
    K) = (do
    let _ ← Attn.midAt arg2 arg4 arg6 arg7 arg8 lg v0 2 0
    K) := rfl

theorem seg3 (v0 : F .f32) (K : Prog (TpuEff nD τ sig (Elt F) Λ₀ .tc) PUnit) : (do
    let ⟨v1217, v1218, v1220⟩ : Σ' (v1217 : FVec F S512x256 .f32) (v1218 : FVec F S512x256 .f32), FVec F S512x256 .f32 ← start52 arg2 arg4 arg7
    let ⟨v1235, v1237⟩ : Σ' (v1235 : FVec F S512x256 .f32), FVec F S512x256 .f32 ← k0_part53 i arg2 harg2 arg3 harg3 arg4 harg4 arg5 harg5 arg6 harg6 arg7 harg7 arg8 harg8 v1217 v1218 v1220
    let ⟨v1269, v1271⟩ : Σ' (v1269 : FVec F S512x256 .f32), FVec F S512x256 .f32 ← k0_part54 i arg2 harg2 arg3 harg3 arg4 harg4 arg5 harg5 arg6 harg6 arg7 harg7 arg8 harg8 v1235 v1237
    let ⟨v1303, v1305, v1309⟩ : Σ' (v1303 : FVec F S512x256 .f32) (v1305 : FVec F S512x256 .f32), FVec F S512x128 .f32 ← k0_part55 i arg2 harg2 arg3 harg3 arg4 harg4 arg5 harg5 arg6 harg6 arg7 harg7 arg8 harg8 v1269 v1271
    let ⟨v1336, v1344⟩ : Σ' (v1336 : F .f32), F .f32 ← k0_part56 i arg2 harg2 arg3 harg3 arg4 harg4 arg5 harg5 arg6 harg6 arg7 harg7 arg8 harg8 v1303 v1305 v1309
    let ⟨v1346, v1347, v1374⟩ : Σ' (v1346 : F .f32) (v1347 : F .f32), FVec F S8x64x256 .f32 ← k0_part57 i arg2 harg2 arg3 harg3 arg4 harg4 arg5 harg5 arg6 harg6 arg7 harg7 arg8 harg8 v0 v1336 v1344
    let ⟨v1396, v1398, v1402⟩ : Σ' (v1396 : FVec F S8x64x256 .f32) (v1398 : FVec F S8x64x256 .f32), FVec F S8x64x256 .f32 ← k0_part58 i arg2 harg2 arg3 harg3 arg4 harg4 arg5 harg5 arg6 harg6 arg7 harg7 arg8 harg8 v1346 v1347 v1374
    let ⟨v1426, v1428⟩ : Σ' (v1426 : FVec F S8x64x256 .f32), FVec F S8x64x256 .f32 ← k0_part59 i arg2 harg2 arg3 harg3 arg4 harg4 arg5 harg5 arg6 harg6 arg7 harg7 arg8 harg8 v1346 v1347 v1396 v1398 v1402
    let ⟨v1456, v1458⟩ : Σ' (v1456 : FVec F S8x64x256 .f32), FVec F S8x64x256 .f32 ← k0_part60 i arg2 harg2 arg3 harg3 arg4 harg4 arg5 harg5 arg6 harg6 arg7 harg7 arg8 harg8 v1346 v1347 v1426 v1428
    let ⟨v1486, v1488⟩ : Σ' (v1486 : FVec F S8x64x256 .f32), FVec F S8x64x256 .f32 ← k0_part61 i arg2 harg2 arg3 harg3 arg4 harg4 arg5 harg5 arg6 harg6 arg7 harg7 arg8 harg8 v1346 v1347 v1456 v1458
    let ⟨v1516, v1518⟩ : Σ' (v1516 : FVec F S8x64x256 .f32), FVec F S8x64x256 .f32 ← k0_part62 i arg2 harg2 arg3 harg3 arg4 harg4 arg5 harg5 arg6 harg6 arg7 harg7 arg8 harg8 v1346 v1347 v1486 v1488
    let v1546 : FVec F S8x64x256 .f32 ← k0_part63 i arg2 harg2 arg3 harg3 arg4 harg4 arg5 harg5 arg6 harg6 arg7 harg7 arg8 harg8 v1346 v1347 v1516 v1518
    let v1576 : FVec F S8x64x256 .f32 ← k0_part64 i arg2 harg2 arg3 harg3 arg4 harg4 arg5 harg5 arg6 harg6 arg7 harg7 arg8 harg8 v1346 v1347 v1546
    let v1577 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
    have v1578 : FVec F S8x64x256 .f32 := shapeCast S8x64x256 v1577 shapeCasts_S1x8x64x256_S8x64x256
    let v1579 : Memref sig .tc .vmem S1x1x64x64x256 .f32 := arg2.slice (Rect.unit (s := S4x1x64x64x256) ![3, 0, 0, 0, 0] S1x1x64x64x256.size inb_S4x1x64x64x256_S1x1x64x64x256_3_0_0_0_0) (fun _ => rfl)
    let v1580 : Memref sig .tc .vmem S64x64x256 .f32 := v1579.squeeze S64x64x256 squeezes_S1x1x64x64x256_S64x64x256
    let v1581 : Vec F S8x64x256 .f32 ← Prog.lift (.load v1580 (Rect.unit (s := S64x64x256) ![56, 0, 0] S8x64x256.size inb_S64x64x256_S8x64x256_56_0_0).toLoadRect (View.loadsAt_vmem h_S8x64x256))
    have v1582 : FVec F S8x64x256 .f32 := shapeCast S8x64x256 v1581 shapeCasts_S8x64x256_S8x64x256
    have v1583 : FVec F S8x64x256 .f32 := mulf v1582 v1576
    have v1584 : FVec F S8x64x256 .f32 := addf v1578 v1583
    let v1585 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
    have v1586 : FVec F S8x64x256 .f32 := shapeCast S8x64x256 v1585 shapeCasts_S1x8x64x256_S8x64x256
    have v1587 : FVec F S1x8x64x256 .f32 := shapeCast S1x8x64x256 v1584 shapeCasts_S8x64x256_S1x8x64x256
    Prog.lift (.store arg6 (Rect.unit (s := S1x64x64x256) ![0, 56, 0, 0] S1x8x64x256.size inb_S1x64x64x256_S1x8x64x256_0_56_0_0) v1587 Finset.univ (View.stores_vmem_bits_univ h_S1x8x64x256 rfl) (.inl rfl))
    K) = (do
    let _ ← Attn.midAt arg2 arg4 arg6 arg7 arg8 lg v0 3 1
    K) := rfl

theorem seg4 (v0 : F .f32) (K : Prog (TpuEff nD τ sig (Elt F) Λ₀ .tc) PUnit) : (do
    let ⟨v36, v38, v39, v41, cst_32⟩ : Σ' (v36 : FVec F S512x256 .f32) (v38 : FVec F S512x256 .f32) (v39 : FVec F S512x256 .bf16) (v41 : FVec F S256x128 .bf16), FVec F S512x128 .f32 ← k0_part66 i arg2 harg2 arg3 harg3 arg4 harg4 arg5 harg5 arg6 harg6 arg7 harg7 arg8 harg8
    let ⟨v55, v69, v70⟩ : Σ' (v55 : FVec F S512x256 .f32) (v69 : FVec F S512x256 .f32), FVec F S512x256 .f32 ← k0_part67 i arg2 harg2 arg3 harg3 arg4 harg4 arg5 harg5 arg6 harg6 arg7 harg7 arg8 harg8 v36 v38 v39 v41 cst_32
    let ⟨v87, v89⟩ : Σ' (v87 : FVec F S512x256 .f32), FVec F S512x256 .f32 ← k0_part68 i arg2 harg2 arg3 harg3 arg4 harg4 arg5 harg5 arg6 harg6 arg7 harg7 arg8 harg8 v55 v69 v70
    let ⟨v121, v123, v127⟩ : Σ' (v121 : FVec F S512x256 .f32) (v123 : FVec F S512x256 .f32), FVec F S512x128 .f32 ← k0_part69 i arg2 harg2 arg3 harg3 arg4 harg4 arg5 harg5 arg6 harg6 arg7 harg7 arg8 harg8 v87 v89
    let ⟨v164, v165⟩ : Σ' (v164 : F .f32), F .f32 ← k0_part70 i arg2 harg2 arg3 harg3 arg4 harg4 arg5 harg5 arg6 harg6 arg7 harg7 arg8 harg8 v0 v121 v123 v127
    let v195 : FVec F S1x8x64x256 .f32 ← k0_part71 i arg2 harg2 arg3 harg3 arg4 harg4 arg5 harg5 arg6 harg6 arg7 harg7 arg8 harg8 v164 v165
    let v222 : FVec F S8x64x256 .f32 ← k0_part72 i arg2 harg2 arg3 harg3 arg4 harg4 arg5 harg5 arg6 harg6 arg7 harg7 arg8 harg8 v164 v165 v195
    let v252 : FVec F S8x64x256 .f32 ← k0_part73 i arg2 harg2 arg3 harg3 arg4 harg4 arg5 harg5 arg6 harg6 arg7 harg7 arg8 harg8 v164 v165 v222
    let ⟨v274, v276, v280⟩ : Σ' (v274 : FVec F S8x64x256 .f32) (v276 : FVec F S8x64x256 .f32), FVec F S8x64x256 .f32 ← k0_part74 i arg2 harg2 arg3 harg3 arg4 harg4 arg5 harg5 arg6 harg6 arg7 harg7 arg8 harg8 v164 v165 v252
    let ⟨v304, v306⟩ : Σ' (v304 : FVec F S8x64x256 .f32), FVec F S8x64x256 .f32 ← k0_part75 i arg2 harg2 arg3 harg3 arg4 harg4 arg5 harg5 arg6 harg6 arg7 harg7 arg8 harg8 v164 v165 v274 v276 v280
    let ⟨v334, v336⟩ : Σ' (v334 : FVec F S8x64x256 .f32), FVec F S8x64x256 .f32 ← k0_part76 i arg2 harg2 arg3 harg3 arg4 harg4 arg5 harg5 arg6 harg6 arg7 harg7 arg8 harg8 v164 v165 v304 v306
    let ⟨v364, v366⟩ : Σ' (v364 : FVec F S8x64x256 .f32), FVec F S8x64x256 .f32 ← k0_part77 i arg2 harg2 arg3 harg3 arg4 harg4 arg5 harg5 arg6 harg6 arg7 harg7 arg8 harg8 v164 v165 v334 v336
    let ⟨v394, v396⟩ : Σ' (v394 : FVec F S8x64x256 .f32), FVec F S8x64x256 .f32 ← k0_part78 i arg2 harg2 arg3 harg3 arg4 harg4 arg5 harg5 arg6 harg6 arg7 harg7 arg8 harg8 v164 v165 v364 v366
    end79 arg2 arg6 arg7 arg8 v394 v396
    K) = (do
    let _ ← Attn.midAt arg2 arg4 arg6 arg7 arg8 lg v0 0 0
    K) := rfl

theorem seg5 (v0 : F .f32) (K : Prog (TpuEff nD τ sig (Elt F) Λ₀ .tc) PUnit) : (do
    let ⟨v413, v415⟩ : Σ' (v413 : FVec F S512x256 .f32), FVec F S512x256 .f32 ← start79 arg2 arg4 arg7
    let ⟨v447, v449, v453⟩ : Σ' (v447 : FVec F S512x256 .f32) (v449 : FVec F S512x256 .f32), FVec F S512x128 .f32 ← k0_part80 i arg2 harg2 arg3 harg3 arg4 harg4 arg5 harg5 arg6 harg6 arg7 harg7 arg8 harg8 v413 v415
    let ⟨v481, v483, v484⟩ : Σ' (v481 : FVec F S512x256 .f32) (v483 : FVec F S512x256 .f32), FVec F S512x256 .bf16 ← k0_part81 i arg2 harg2 arg3 harg3 arg4 harg4 arg5 harg5 arg6 harg6 arg7 harg7 arg8 harg8 v447 v449 v453
    let ⟨v498, v500⟩ : Σ' (v498 : FVec F S512x256 .f32), FVec F S512x256 .f32 ← k0_part82 i arg2 harg2 arg3 harg3 arg4 harg4 arg5 harg5 arg6 harg6 arg7 harg7 arg8 harg8 v481 v483 v484
    let ⟨v534, v544⟩ : Σ' (v534 : FVec F S512x256 .f32), FVec F S1x512x256 .f32 ← k0_part83 i arg2 harg2 arg3 harg3 arg4 harg4 arg5 harg5 arg6 harg6 arg7 harg7 arg8 harg8 v498 v500
    let ⟨v558, v559, v578, v579⟩ : Σ' (v558 : F .f32) (v559 : F .f32) (v578 : FVec F S8x64x256 .f32), Vec F S1x8x64x256 .f32 ← k0_part84 i arg2 harg2 arg3 harg3 arg4 harg4 arg5 harg5 arg6 harg6 arg7 harg7 arg8 harg8 v0 v534 v544
    let v608 : FVec F S8x64x256 .f32 ← k0_part85 i arg2 harg2 arg3 harg3 arg4 harg4 arg5 harg5 arg6 harg6 arg7 harg7 arg8 harg8 v558 v559 v578 v579
    let v637 : FVec F S512x256 .f32 ← k0_part86 i arg2 harg2 arg3 harg3 arg4 harg4 arg5 harg5 arg6 harg6 arg7 harg7 arg8 harg8 v558 v559 v608
    let ⟨v657, v661⟩ : Σ' (v657 : FVec F S512x128 .f32), FVec F S512x128 .f32 ← k0_part87 i arg2 harg2 arg3 harg3 arg4 harg4 arg5 harg5 arg6 harg6 arg7 harg7 arg8 harg8 v558 v559 v637
    let ⟨v687, v691⟩ : Σ' (v687 : FVec F S512x128 .f32), FVec F S512x128 .f32 ← k0_part88 i arg2 harg2 arg3 harg3 arg4 harg4 arg5 harg5 arg6 harg6 arg7 harg7 arg8 harg8 v558 v559 v657 v661
    let ⟨v717, v721⟩ : Σ' (v717 : FVec F S512x128 .f32), FVec F S512x128 .f32 ← k0_part89 i arg2 harg2 arg3 harg3 arg4 harg4 arg5 harg5 arg6 harg6 arg7 harg7 arg8 harg8 v558 v559 v687 v691
    let ⟨v747, v751⟩ : Σ' (v747 : FVec F S512x128 .f32), FVec F S512x128 .f32 ← k0_part90 i arg2 harg2 arg3 harg3 arg4 harg4 arg5 harg5 arg6 harg6 arg7 harg7 arg8 harg8 v558 v559 v717 v721
    let v777 : FVec F S512x128 .f32 ← k0_part91 i arg2 harg2 arg3 harg3 arg4 harg4 arg5 harg5 arg6 harg6 arg7 harg7 arg8 harg8 v558 v559 v747 v751
    end92 arg2 arg6 arg7 arg8 v777
    K) = (do
    let _ ← Attn.midAt arg2 arg4 arg6 arg7 arg8 lg v0 1 1
    K) := rfl

theorem seg6 (v0 : F .f32) (K : Prog (TpuEff nD τ sig (Elt F) Λ₀ .tc) PUnit) : (do
    let ⟨v800, v801, v805⟩ : Σ' (v800 : FVec F S512x256 .f32) (v801 : FVec F S512x256 .f32), FVec F S8x64x256 .f32 ← start92 arg2 arg4 arg7
    let ⟨v824, v826⟩ : Σ' (v824 : FVec F S512x256 .f32), FVec F S512x256 .f32 ← k0_part93 i arg2 harg2 arg3 harg3 arg4 harg4 arg5 harg5 arg6 harg6 arg7 harg7 arg8 harg8 v800 v801 v805
    let ⟨v858, v860, v864⟩ : Σ' (v858 : FVec F S512x256 .f32) (v860 : FVec F S512x256 .f32), FVec F S512x128 .f32 ← k0_part94 i arg2 harg2 arg3 harg3 arg4 harg4 arg5 harg5 arg6 harg6 arg7 harg7 arg8 harg8 v824 v826
    let ⟨v892, v894, v895, v897, cst_850⟩ : Σ' (v892 : FVec F S512x256 .f32) (v894 : FVec F S512x256 .f32) (v895 : FVec F S512x256 .bf16) (v897 : FVec F S256x128 .bf16), FVec F S512x128 .f32 ← k0_part95 i arg2 harg2 arg3 harg3 arg4 harg4 arg5 harg5 arg6 harg6 arg7 harg7 arg8 harg8 v858 v860 v864
    let ⟨v911, v925, v926⟩ : Σ' (v911 : FVec F S512x256 .f32) (v925 : FVec F S512x256 .f32), FVec F S512x256 .f32 ← k0_part96 i arg2 harg2 arg3 harg3 arg4 harg4 arg5 harg5 arg6 harg6 arg7 harg7 arg8 harg8 v892 v894 v895 v897 cst_850
    let ⟨v952, v953, v961⟩ : Σ' (v952 : F .f32) (v953 : F .f32), FVec F S512x128 .f32 ← k0_part97 i arg2 harg2 arg3 harg3 arg4 harg4 arg5 harg5 arg6 harg6 arg7 harg7 arg8 harg8 v0 v911 v925 v926
    let v991 : FVec F S512x128 .f32 ← k0_part98 i arg2 harg2 arg3 harg3 arg4 harg4 arg5 harg5 arg6 harg6 arg7 harg7 arg8 harg8 v952 v953 v961
    let v1020 : FVec F S512x128 .f32 ← k0_part99 i arg2 harg2 arg3 harg3 arg4 harg4 arg5 harg5 arg6 harg6 arg7 harg7 arg8 harg8 v952 v953 v991
    let ⟨v1046, v1047⟩ : Σ' (v1046 : Vec F S512x128 .f32), FVec F S512x128 .f32 ← k0_part100 i arg2 harg2 arg3 harg3 arg4 harg4 arg5 harg5 arg6 harg6 arg7 harg7 arg8 harg8 v953 v1020
    k0_part101 i arg2 harg2 arg3 harg3 arg4 harg4 arg5 harg5 arg6 harg6 arg7 harg7 arg8 harg8 v952 v1046 v1047
    k0_part102 i arg2 harg2 arg3 harg3 arg4 harg4 arg5 harg5 arg6 harg6 arg7 harg7 arg8 harg8 v952 v953
    k0_part103 i arg2 harg2 arg3 harg3 arg4 harg4 arg5 harg5 arg6 harg6 arg7 harg7 arg8 harg8 v952 v953
    let ⟨v1160, v1161⟩ : Σ' (v1160 : FVec F S8x64x256 .f32), Vec F S1x8x64x256 .f32 ← k0_part104 i arg2 harg2 arg3 harg3 arg4 harg4 arg5 harg5 arg6 harg6 arg7 harg7 arg8 harg8 v952 v953
    let v1190 : FVec F S8x64x256 .f32 ← k0_part105 i arg2 harg2 arg3 harg3 arg4 harg4 arg5 harg5 arg6 harg6 arg7 harg7 arg8 harg8 v952 v953 v1160 v1161
    end106 arg2 arg6 arg7 arg8 v1190
    K) = (do
    let _ ← Attn.midAt arg2 arg4 arg6 arg7 arg8 lg v0 2 0
    K) := rfl

theorem seg7 (v0 : F .f32) (K : Prog (TpuEff nD τ sig (Elt F) Λ₀ .tc) PUnit) : (do
    let ⟨v1217, v1218, v1220⟩ : Σ' (v1217 : FVec F S512x256 .f32) (v1218 : FVec F S512x256 .f32), FVec F S512x256 .f32 ← start106 arg2 arg4 arg7
    let ⟨v1235, v1237⟩ : Σ' (v1235 : FVec F S512x256 .f32), FVec F S512x256 .f32 ← k0_part107 i arg2 harg2 arg3 harg3 arg4 harg4 arg5 harg5 arg6 harg6 arg7 harg7 arg8 harg8 v1217 v1218 v1220
    let ⟨v1269, v1271⟩ : Σ' (v1269 : FVec F S512x256 .f32), FVec F S512x256 .f32 ← k0_part108 i arg2 harg2 arg3 harg3 arg4 harg4 arg5 harg5 arg6 harg6 arg7 harg7 arg8 harg8 v1235 v1237
    let ⟨v1303, v1305, v1309⟩ : Σ' (v1303 : FVec F S512x256 .f32) (v1305 : FVec F S512x256 .f32), FVec F S512x128 .f32 ← k0_part109 i arg2 harg2 arg3 harg3 arg4 harg4 arg5 harg5 arg6 harg6 arg7 harg7 arg8 harg8 v1269 v1271
    let ⟨v1336, v1344⟩ : Σ' (v1336 : F .f32), F .f32 ← k0_part110 i arg2 harg2 arg3 harg3 arg4 harg4 arg5 harg5 arg6 harg6 arg7 harg7 arg8 harg8 v1303 v1305 v1309
    let ⟨v1346, v1347, v1368, v1373⟩ : Σ' (v1346 : F .f32) (v1347 : F .f32) (v1368 : FVec F S8x64x256 .f32), FVec F S8x64x256 .f32 ← k0_part111 i arg2 harg2 arg3 harg3 arg4 harg4 arg5 harg5 arg6 harg6 arg7 harg7 arg8 harg8 v0 v1336 v1344
    let ⟨v1403, v1408⟩ : Σ' (v1403 : FVec F S8x64x256 .f32), FVec F S8x64x256 .f32 ← k0_part112 i arg2 harg2 arg3 harg3 arg4 harg4 arg5 harg5 arg6 harg6 arg7 harg7 arg8 harg8 v1346 v1347 v1368 v1373
    let ⟨v1438, v1440⟩ : Σ' (v1438 : FVec F S8x64x256 .f32), FVec F S8x64x256 .f32 ← k0_part113 i arg2 harg2 arg3 harg3 arg4 harg4 arg5 harg5 arg6 harg6 arg7 harg7 arg8 harg8 v1346 v1347 v1403 v1408
    let ⟨v1460, v1468, cst_1388⟩ : Σ' (v1460 : FVec F S512x128 .f32) (v1468 : FVec F S512x128 .f32), F .f32 ← k0_part114 i arg2 harg2 arg3 harg3 arg4 harg4 arg5 harg5 arg6 harg6 arg7 harg7 arg8 harg8 v1346 v1347 v1438 v1440
    let ⟨v1495, v1498⟩ : Σ' (v1495 : FVec F S512x128 .f32), Vec F S512x128 .f32 ← k0_part115 i arg2 harg2 arg3 harg3 arg4 harg4 arg5 harg5 arg6 harg6 arg7 harg7 arg8 harg8 v1346 v1347 v1460 v1468 cst_1388
    let v1530 : FVec F S512x128 .f32 ← k0_part116 i arg2 harg2 arg3 harg3 arg4 harg4 arg5 harg5 arg6 harg6 arg7 harg7 arg8 harg8 v1346 v1347 v1495 v1498
    let v1560 : Vec F S512x128 .f32 ← k0_part117 i arg2 harg2 arg3 harg3 arg4 harg4 arg5 harg5 arg6 harg6 arg7 harg7 arg8 harg8 v1530
    k0_part118 i arg2 harg2 arg3 harg3 arg4 harg4 arg5 harg5 arg6 harg6 arg7 harg7 arg8 harg8 v1346 v1347 v1560
    let v1624 : FVec F S8x64x256 .f32 ← k0_part119 i arg2 harg2 arg3 harg3 arg4 harg4 arg5 harg5 arg6 harg6 arg7 harg7 arg8 harg8 v1346 v1347
    let v1625 : Vec F S1x8x64x256 .f32 ← Prog.lift (.load arg6 (Rect.unit (s := S1x64x64x256) ![0, 56, 0, 0] S1x8x64x256.size inb_S1x64x64x256_S1x8x64x256_0_56_0_0).toLoadRect (View.loadsAt_vmem h_S1x8x64x256))
    have v1626 : FVec F S8x64x256 .f32 := shapeCast S8x64x256 v1625 shapeCasts_S1x8x64x256_S8x64x256
    have v1627 : FVec F S1x8x64x256 .f32 := shapeCast S1x8x64x256 v1624 shapeCasts_S8x64x256_S1x8x64x256
    Prog.lift (.store arg6 (Rect.unit (s := S1x64x64x256) ![0, 56, 0, 0] S1x8x64x256.size inb_S1x64x64x256_S1x8x64x256_0_56_0_0) v1627 Finset.univ (View.stores_vmem_bits_univ h_S1x8x64x256 rfl) (.inl rfl))
    K) = (do
    let _ ← Attn.applyBlk (Attn.blk arg2 3) arg4 (Attn.half arg7 1) lg v0 (Attn.lastChunk (Attn.blk arg2 3) arg6 (Attn.half arg7 1) (Attn.half arg8 1) (Attn.half arg8 0))
    K) := rfl

theorem body_init (h1 : k0_cond1 i = 1#1) (h2 : ¬ k0_cond2 i = 1#1) (h3 : ¬ k0_cond3 i = 1#1) :
    cc0__body (F := F) i arg2 harg2 arg3 harg3 arg4 harg4 arg5 harg5 arg6 harg6 arg7 harg7 arg8 harg8
      = (do let s ← Attn.ldWord arg5
            let _ ← Attn.stepInit arg3 arg4 arg6 arg7 arg8 lg s
            pure ⟨⟩) := by
  unfold cc0__body
  simp only [dif_pos h1, dif_neg h2, dif_neg h3]
  rfl

theorem body_mid (h1 : ¬ k0_cond1 i = 1#1) (h2 : k0_cond2 i = 1#1) (h3 : ¬ k0_cond3 i = 1#1) :
    cc0__body (F := F) i arg2 harg2 arg3 harg3 arg4 harg4 arg5 harg5 arg6 harg6 arg7 harg7 arg8 harg8
      = (do let s ← Attn.ldWord arg5
            let _ ← Attn.stepMid arg2 arg4 arg6 arg7 arg8 lg s
            pure ⟨⟩) := by
  unfold cc0__body
  simp only [dif_neg h1, dif_pos h2, dif_neg h3]
  refine congrArg (Bind.bind (m := Prog _) (Attn.ldWord arg5)) (funext fun v0 => ?_)
  simp only [Attn.stepMid, k0_part65, cut25, cut38, cut52, bind_assoc, pure_bind]
  refine (seg0 i arg2 harg2 arg3 harg3 arg4 harg4 arg5 harg5 arg6 harg6 arg7 harg7 arg8 harg8 v0 _).trans (congrArg _ (funext fun _ => ?_))
  refine (seg1 i arg2 harg2 arg3 harg3 arg4 harg4 arg5 harg5 arg6 harg6 arg7 harg7 arg8 harg8 v0 _).trans (congrArg _ (funext fun _ => ?_))
  refine (seg2 i arg2 harg2 arg3 harg3 arg4 harg4 arg5 harg5 arg6 harg6 arg7 harg7 arg8 harg8 v0 _).trans (congrArg _ (funext fun _ => ?_))
  exact seg3 i arg2 harg2 arg3 harg3 arg4 harg4 arg5 harg5 arg6 harg6 arg7 harg7 arg8 harg8 v0 _

theorem body_last (h1 : ¬ k0_cond1 i = 1#1) (h2 : ¬ k0_cond2 i = 1#1) (h3 : k0_cond3 i = 1#1) :
    cc0__body (F := F) i arg2 harg2 arg3 harg3 arg4 harg4 arg5 harg5 arg6 harg6 arg7 harg7 arg8 harg8
      = (do let s ← Attn.ldWord arg5
            let _ ← Attn.stepLast arg2 arg4 arg6 arg7 arg8 lg s
            pure ⟨⟩) := by
  unfold cc0__body
  simp only [dif_neg h1, dif_neg h2, dif_pos h3]
  refine congrArg (Bind.bind (m := Prog _) (Attn.ldWord arg5)) (funext fun v0 => ?_)
  simp only [Attn.stepLast, k0_part120, cut79, cut92, cut106, bind_assoc, pure_bind]
  refine (seg4 i arg2 harg2 arg3 harg3 arg4 harg4 arg5 harg5 arg6 harg6 arg7 harg7 arg8 harg8 v0 _).trans (congrArg _ (funext fun _ => ?_))
  refine (seg5 i arg2 harg2 arg3 harg3 arg4 harg4 arg5 harg5 arg6 harg6 arg7 harg7 arg8 harg8 v0 _).trans (congrArg _ (funext fun _ => ?_))
  refine (seg6 i arg2 harg2 arg3 harg3 arg4 harg4 arg5 harg5 arg6 harg6 arg7 harg7 arg8 harg8 v0 _).trans (congrArg _ (funext fun _ => ?_))
  exact seg7 i arg2 harg2 arg3 harg3 arg4 harg4 arg5 harg5 arg6 harg6 arg7 harg7 arg8 harg8 v0 _

end Cert.KernelIdeal.Gen
-- ==== Proof.KernelIdeal.Runs.lean ====
/-
  The pipeline run: what the windows and the scratch hold after each grid point, the body's triple at every point, and
  the launch.
-/
module

public import proofs.«01_k».proof.Proof.KernelIdeal.Cuts
public import proofs.«01_k».proof.Proof.Triples
public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid -/

theorem cond1_iff : ∀ t : Fin cfg0.N, k0_cond1 (grid0.coords t) = 1#1 ↔ t.val % 3 = 0 :=
  (by decide +kernel : ∀ t : Fin grid0.N, k0_cond1 (grid0.coords t) = 1#1 ↔ t.val % 3 = 0)
theorem cond2_iff : ∀ t : Fin cfg0.N, k0_cond2 (grid0.coords t) = 1#1 ↔ t.val % 3 = 1 :=
  (by decide +kernel : ∀ t : Fin grid0.N, k0_cond2 (grid0.coords t) = 1#1 ↔ t.val % 3 = 1)
theorem cond3_iff : ∀ t : Fin cfg0.N, k0_cond3 (grid0.coords t) = 1#1 ↔ t.val % 3 = 2 :=
  (by decide +kernel : ∀ t : Fin grid0.N, k0_cond3 (grid0.coords t) = 1#1 ↔ t.val % 3 = 2)

abbrev scM0 : Memref sig .tc .vmem S2x4096x128 .f32 := Memref.whole cc0_scratch0
abbrev scM1 : Memref sig .tc .vmem S2x4096x128 .f32 := Memref.whole cc0_scratch1

/-! ## What the result window and the sums hold after each point -/

/-- The weight matrix at a point, -/
def wAt (c : Dev nD) (t : Fin cfg0.N) : Vec F Attn.SW .bf16 := iblk m c 2 t
/-- the score sum, -/
def sAt (c : Dev nD) (t : Fin cfg0.N) : F .f32 := Attn.wordOf (iblk m c 3 t)
/-- the four blocks, -/
def blksAt (c : Dev nD) (t : Fin cfg0.N) : Fin 4 → Vec F Attn.SSrc .f32 := Attn.blkOf (iblk m c 0 t)
/-- and the query's block. -/
def xAt (c : Dev nD) (t : Fin cfg0.N) : Vec F Attn.SSrc .f32 := Attn.xOf (iblk m c 1 t)

/-- One point's step. -/
def stepAt (c : Dev nD) (t : Fin cfg0.N) (p : Attn.St F) : Attn.St F :=
  if t.val % 3 = 0 then Attn.stInit lg (sAt m c t) (wAt m c t) (xAt m c t)
  else if t.val % 3 = 1 then Attn.stMid lg (sAt m c t) (wAt m c t) (blksAt m c t) p
  else Attn.stLast lg (sAt m c t) (wAt m c t) (blksAt m c t) p

/-- The state after a point. -/
def stAt (c : Dev nD) : (n : ℕ) → n < cfg0.N → Attn.St F
  | 0, h => stepAt m c ⟨0, h⟩ ⟨Attn.zeros _, Attn.zeros _, Attn.zeros _⟩
  | n + 1, h => stepAt m c ⟨n + 1, h⟩ (stAt c n (Nat.lt_of_succ_lt h))

theorem stAt_init (c : Dev nD) (t : Fin cfg0.N) (h : t.val % 3 = 0) :
    stAt m c t.val t.isLt = Attn.stInit lg (sAt m c t) (wAt m c t) (xAt m c t) := by
  obtain ⟨n, hn⟩ := t
  cases n with
  | zero => exact (show stAt m c 0 hn = stepAt m c ⟨0, hn⟩ ⟨Attn.zeros _, Attn.zeros _, Attn.zeros _⟩ from rfl).trans (if_pos h)
  | succ n => exact (show stAt m c (n + 1) hn = stepAt m c ⟨n + 1, hn⟩ (stAt m c n (Nat.lt_of_succ_lt hn)) from rfl).trans (if_pos h)

theorem stAt_pos (c : Dev nD) (t : Fin cfg0.N) (h : t.val ≠ 0) :
    stAt m c t.val t.isLt = stepAt m c t (stAt m c (t.val - 1) (Nat.lt_of_le_of_lt (Nat.sub_le _ _) t.isLt)) := by
  obtain ⟨n, hn⟩ := t
  cases n with
  | zero => exact absurd rfl h
  | succ n => rfl

theorem stAt_mid (c : Dev nD) (t : Fin cfg0.N) (h : t.val % 3 = 1) :
    stAt m c t.val t.isLt = Attn.stMid lg (sAt m c t) (wAt m c t) (blksAt m c t) (stAt m c (t.val - 1) (Nat.lt_of_le_of_lt (Nat.sub_le _ _) t.isLt)) := by
  rw [stAt_pos m c t (by omega), stepAt, if_neg (by omega), if_pos h]

theorem stAt_last (c : Dev nD) (t : Fin cfg0.N) (h : t.val % 3 = 2) :
    stAt m c t.val t.isLt = Attn.stLast lg (sAt m c t) (wAt m c t) (blksAt m c t) (stAt m c (t.val - 1) (Nat.lt_of_le_of_lt (Nat.sub_le _ _) t.isLt)) := by
  rw [stAt_pos m c t (by omega), stepAt, if_neg (by omega), if_neg (by omega)]

/-! ## The proof data -/

/-- Between points: the score scratch at anything, the sums at what the point before left. -/
def PhiS (c : Dev nD) (n : ℕ) (h : n ≤ cfg0.N) : sProp 𝕄 :=
  iprop((∃ z, owns (c : Thread nD τ) (Attn.half scM0 0) fullShare z) ∗ (∃ z, owns (c : Thread nD τ) (Attn.half scM0 1) fullShare z)
    ∗ (∃ a b, ⌜∀ hn : n ≠ 0, a = (stAt m c (n - 1) (by omega)).l0 ∧ b = (stAt m c (n - 1) (by omega)).l1⌝
        ∗ owns (c : Thread nD τ) (Attn.half scM1 0) fullShare a ∗ owns (c : Thread nD τ) (Attn.half scM1 1) fullShare b)
    ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).o
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (stAt m c t.val t.isLt).o := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem live0 (w : Fin cfg0.W) (t : Fin cfg0.N) : cfg0.idle w (grid0.coords t) = false := by
  revert w t
  exact (by decide +kernel : ∀ (w : Fin 5) (t : Fin grid0.N), cfg0.idle w (grid0.coords t) = false)

/-- The result window is written back at a row's last point only, so before any other it holds what the point before left. -/
theorem before0_4 (c : Dev nD) (t : Fin cfg0.N) (h : t.val % 3 ≠ 0) (d) :
    (dats m 0 c).before 4 t d = (stAt m c (t.val - 1) (Nat.lt_of_le_of_lt (Nat.sub_le _ _) t.isLt)).o := by
  have hfl : (cfg0.win 4).flush ⟨t.val - 1, Nat.lt_of_le_of_lt (Nat.sub_le _ _) t.isLt⟩ = false := by
    rw [Bool.eq_false_iff]
    intro hf
    have := (flush0_4 _).mp hf
    simp only at this
    omega
  rw [(dats m 0 c).before_of_pos 4 t (by omega) ((cfg0.win 4).fetch_out rfl t), hfl, if_neg Bool.false_ne_true]
  unfold Dat.left
  rw [live0 4 _]
  exact after0_4 m c _

/-! ## The body at a point -/

abbrev ms0 (t : Fin cfg0.N) : Memref sig .tc .vmem S4x1x64x64x256 .f32 := win0_0.stage (cfg0.slots t 0)
abbrev ms1 (t : Fin cfg0.N) : Memref sig .tc .vmem S1x64x64x256 .f32 := win0_1.stage (cfg0.slots t 1)
abbrev ms2 (t : Fin cfg0.N) : Memref sig .tc .vmem S256x128 .bf16 := win0_2.stage (cfg0.slots t 2)
abbrev ms3 (t : Fin cfg0.N) : Memref sig .tc .smem S1x1 .f32 := win0_3.stage (cfg0.slots t 3)
abbrev ms4 (t : Fin cfg0.N) : Memref sig .tc .vmem S1x64x64x256 .f32 := win0_4.stage (cfg0.slots t 4)

/-- What a point's program finds: the windows at their blocks, the scratch and the result at a state. -/
def found (c : Dev nD) (t : Fin cfg0.N) (p : Attn.St F) : sProp 𝕄 :=
  iprop(owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ Attn.held c (ms4 t) scM0 scM1 p)

/-- The body at a row's first point. -/
theorem body0 (c : Dev nD) (t : Fin cfg0.N) (h : t.val % 3 = 0) (p : Attn.St F) (K : PUnit → sProp 𝕄) :
    iprop(found m c t p ∗ (found m c t (stAt m c t.val t.isLt) -∗ K ⟨⟩))
      ⊢ wp frame (wpE (defs₀ (F := F)) Variants.none c none) Set.univ (bodyAt0 t) K := by
  unfold bodyAt0 found
  rw [stAt_init m c t h, body_init (grid0.coords t) _ _ _ _ _ _ _ _ _ _ _ _ _ _ ((cond1_iff t).mpr h)
    (fun e => by have := (cond2_iff t).mp e; omega) (fun e => by have := (cond3_iff t).mp e; omega)]
  iintro ⟨⟨H0, H1, H2, H3, Hh⟩, Hk⟩
  simp only [wp_bind, wp_pure]
  iapply (Attn.wp_ldWord Variants.none c none Set.univ fullShare (ms3 t) (iblk m c 3 t)) $$ H3
  iintro H3
  iapply (Attn.wp_stepInit Variants.none c none Set.univ fullShare fullShare (ms1 t) (ms2 t) (ms4 t) scM0 scM1 lg
    (Attn.wordOf (iblk m c 3 t)) (iblk m c 2 t) (iblk m c 1 t) p)
  isplitl [H1]; · iexact H1
  isplitl [H2]; · iexact H2
  isplitl [Hh]; · iexact Hh
  iintro H1 H2 Hh
  imodintro
  iapply Hk
  isplitl [H0]; · iexact H0
  isplitl [H1]; · iexact H1
  isplitl [H2]; · iexact H2
  isplitl [H3]; · iexact H3
  iexact Hh

/-- The body at a row's second point. -/
theorem body1 (c : Dev nD) (t : Fin cfg0.N) (h : t.val % 3 = 1) (K : PUnit → sProp 𝕄) :
    iprop(found m c t (stAt m c (t.val - 1) (Nat.lt_of_le_of_lt (Nat.sub_le _ _) t.isLt)) ∗ (found m c t (stAt m c t.val t.isLt) -∗ K ⟨⟩))
      ⊢ wp frame (wpE (defs₀ (F := F)) Variants.none c none) Set.univ (bodyAt0 t) K := by
  unfold bodyAt0 found
  rw [stAt_mid m c t h, body_mid (grid0.coords t) _ _ _ _ _ _ _ _ _ _ _ _ _ _ (fun e => by have := (cond1_iff t).mp e; omega)
    ((cond2_iff t).mpr h) (fun e => by have := (cond3_iff t).mp e; omega)]
  iintro ⟨⟨H0, H1, H2, H3, Hh⟩, Hk⟩
  simp only [wp_bind, wp_pure]
  iapply (Attn.wp_ldWord Variants.none c none Set.univ fullShare (ms3 t) (iblk m c 3 t)) $$ H3
  iintro H3
  iapply (Attn.wp_stepMid Variants.none c none Set.univ fullShare fullShare (ms0 t) (ms2 t) (ms4 t) scM0 scM1 lg
    (Attn.wordOf (iblk m c 3 t)) (iblk m c 2 t) (iblk m c 0 t) _)
  isplitl [H0]; · iexact H0
  isplitl [H2]; · iexact H2
  isplitl [Hh]; · iexact Hh
  iintro H0 H2 Hh
  imodintro
  iapply Hk
  isplitl [H0]; · iexact H0
  isplitl [H1]; · iexact H1
  isplitl [H2]; · iexact H2
  isplitl [H3]; · iexact H3
  iexact Hh

/-- The body at a row's last point. -/
theorem body2 (c : Dev nD) (t : Fin cfg0.N) (h : t.val % 3 = 2) (K : PUnit → sProp 𝕄) :
    iprop(found m c t (stAt m c (t.val - 1) (Nat.lt_of_le_of_lt (Nat.sub_le _ _) t.isLt)) ∗ (found m c t (stAt m c t.val t.isLt) -∗ K ⟨⟩))
      ⊢ wp frame (wpE (defs₀ (F := F)) Variants.none c none) Set.univ (bodyAt0 t) K := by
  unfold bodyAt0 found
  rw [stAt_last m c t h, body_last (grid0.coords t) _ _ _ _ _ _ _ _ _ _ _ _ _ _ (fun e => by have := (cond1_iff t).mp e; omega)
    (fun e => by have := (cond2_iff t).mp e; omega) ((cond3_iff t).mpr h)]
  iintro ⟨⟨H0, H1, H2, H3, Hh⟩, Hk⟩
  simp only [wp_bind, wp_pure]
  iapply (Attn.wp_ldWord Variants.none c none Set.univ fullShare (ms3 t) (iblk m c 3 t)) $$ H3
  iintro H3
  iapply (Attn.wp_stepLast Variants.none c none Set.univ fullShare fullShare (ms0 t) (ms2 t) (ms4 t) scM0 scM1 lg
    (Attn.wordOf (iblk m c 3 t)) (iblk m c 2 t) (iblk m c 0 t) _)
  isplitl [H0]; · iexact H0
  isplitl [H2]; · iexact H2
  isplitl [Hh]; · iexact Hh
  iintro H0 H2 Hh
  imodintro
  iapply Hk
  isplitl [H0]; · iexact H0
  isplitl [H1]; · iexact H1
  isplitl [H2]; · iexact H2
  isplitl [H3]; · iexact H3
  iexact Hh

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The state put away again after a point. -/
theorem put_away (c : Dev nD) (t : Fin cfg0.N) :
    iprop(found m c t (stAt m c t.val t.isLt) ∗ (∃ r, prngReg c r) ∗ (dats m 0 c).owesAt () t.castSucc) ⊢ bodyPost m c t := by
  unfold bodyPost found Attn.held
  rw [show (dats m 0 c).owesAt () t.succ = (dats m 0 c).owesAt () t.castSucc from rfl,
    show (dats m 0 c).Φ t.succ = PhiS m c (t.val + 1) t.isLt from rfl,
    show (dats m 0 c).leavesExact 0 t = owns (c : Thread nD τ) (ms0 t) fullShare ((dats m 0 c).after 0 t) from by unfold Dat.leavesExact; rw [live0 0 t],
    show (dats m 0 c).leavesExact 1 t = owns (c : Thread nD τ) (ms1 t) fullShare ((dats m 0 c).after 1 t) from by unfold Dat.leavesExact; rw [live0 1 t],
    show (dats m 0 c).leavesExact 2 t = owns (c : Thread nD τ) (ms2 t) fullShare ((dats m 0 c).after 2 t) from by unfold Dat.leavesExact; rw [live0 2 t],
    show (dats m 0 c).leavesExact 3 t = owns (c : Thread nD τ) (ms3 t) fullShare ((dats m 0 c).after 3 t) from by unfold Dat.leavesExact; rw [live0 3 t],
    show (dats m 0 c).leavesExact 4 t = owns (c : Thread nD τ) (ms4 t) fullShare ((dats m 0 c).after 4 t) from by unfold Dat.leavesExact; rw [live0 4 t],
    after0_0, after0_1, after0_2, after0_3, after0_4]
  unfold PhiS
  iintro ⟨⟨H0, H1, H2, H3, Hz, Hz', Hl, Hl', Ho⟩, Hg, Hw⟩
  isplitl [Hz Hz' Hl Hl' Hg]
  · isplitl [Hz]; · iexact Hz
    isplitl [Hz']; · iexact Hz'
    isplitl [Hl Hl']
    · iexists (stAt m c t.val t.isLt).l0, (stAt m c t.val t.isLt).l1
      isplitr
      · ipureintro; exact fun _ => ⟨rfl, rfl⟩
      isplitl [Hl]; · iexact Hl
      iexact Hl'
    iexact Hg
  isplitl [Hw]; · iexact Hw
  isplitl [H0]; · iexact H0
  isplitl [H1]; · iexact H1
  isplitl [H2]; · iexact H2
  isplitl [H3]; · iexact H3
  iexact Ho

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  rw [PhiS_castSucc m c t]
  simp only [before0_0, before0_1, before0_2, before0_3]
  unfold PhiS
  iintro ⟨⟨Hz, Hz', ⟨%a, %b, %hab, Hl, Hl'⟩, Hg⟩, Hw, ⟨%d0, H0⟩, ⟨%d1, H1⟩, ⟨%d2, H2⟩, ⟨%d3, H3⟩, ⟨%d4, H4⟩⟩
  by_cases h0 : t.val % 3 = 0
  · iapply (body0 m c t h0 ⟨(dats m 0 c).before 4 t d4, a, b⟩ _)
    unfold found Attn.held
    isplitl [Hz Hz' Hl Hl' H0 H1 H2 H3 H4]
    · isplitl [H0]; · iexact H0
      isplitl [H1]; · iexact H1
      isplitl [H2]; · iexact H2
      isplitl [H3]; · iexact H3
      isplitl [Hz]; · iexact Hz
      isplitl [Hz']; · iexact Hz'
      isplitl [Hl]; · iexact Hl
      isplitl [Hl']; · iexact Hl'
      iexact H4
    iintro Hf
    iapply (put_away m c t)
    isplitl [Hf]; · unfold found Attn.held; iexact Hf
    isplitl [Hg]; · iexact Hg
    iexact Hw
  · rw [before0_4 m c t h0]
    obtain ⟨rfl, rfl⟩ := hab (by omega)
    have hb : ∀ K : PUnit → sProp 𝕄, iprop(found m c t (stAt m c (t.val - 1) (Nat.lt_of_le_of_lt (Nat.sub_le _ _) t.isLt)) ∗ (found m c t (stAt m c t.val t.isLt) -∗ K ⟨⟩))
        ⊢ wp frame (wpE (defs₀ (F := F)) Variants.none c none) Set.univ (bodyAt0 t) K := by
      intro K
      by_cases h1 : t.val % 3 = 1
      · exact body1 m c t h1 K
      · exact body2 m c t (by omega) K
    iapply (hb _)
    unfold found Attn.held
    isplitl [Hz Hz' Hl Hl' H0 H1 H2 H3 H4]
    · isplitl [H0]; · iexact H0
      isplitl [H1]; · iexact H1
      isplitl [H2]; · iexact H2
      isplitl [H3]; · iexact H3
      isplitl [Hz]; · iexact Hz
      isplitl [Hz']; · iexact Hz'
      isplitl [Hl]; · iexact Hl
      isplitl [Hl']; · iexact Hl'
      iexact H4
    iintro Hf
    iapply (put_away m c t)
    isplitl [Hf]; · unfold found Attn.held; iexact Hf
    isplitl [Hg]; · iexact Hg
    iexact Hw

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into the region and out of it -/

theorem PhiA_eq (c : Dev nD) : (Pipeline.ΦA spec0 c : sProp 𝕄)
    = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%d, H⟩, ⟨%e, H'⟩⟩, Hg⟩
  ihave Hs := (Attn.owns_halves c fullShare scM0 d) $$ H
  icases Hs with ⟨Hz, Hz'⟩
  ihave Hs' := (Attn.owns_halves c fullShare scM1 e) $$ H'
  icases Hs' with ⟨Hl, Hl'⟩
  isplitl [Hz]; · iexists _; iexact Hz
  isplitl [Hz']; · iexists _; iexact Hz'
  isplitl [Hl Hl']
  · iexists (Attn.halfOf e 0), (Attn.halfOf e 1)
    isplitr
    · ipureintro; exact fun h => absurd rfl h
    isplitl [Hl]; · iexact Hl
    iexact Hl'
  iexact Hg

theorem hout (c : Dev nD) : (dats m 0 c).Φ (Fin.last cfg0.N) ⊢ Pipeline.ΦA spec0 c := by
  rw [show (dats m 0 c).Φ (Fin.last cfg0.N) = PhiS m c cfg0.N (le_refl _) from rfl, PhiA_eq]
  unfold PhiS
  iintro ⟨⟨%z, Hz⟩, ⟨%z', Hz'⟩, ⟨%a, %b, %hab, Hl, Hl'⟩, Hg⟩
  isplitl [Hz Hz' Hl Hl']
  · isplitl [Hz Hz']
    · iapply (Attn.owns_of_halves c fullShare scM0 z z')
      isplitl [Hz]; · iexact Hz
      iexact Hz'
    · iapply (Attn.owns_of_halves c fullShare scM1 a b)
      isplitl [Hl]; · iexact Hl
      iexact Hl'
  iexact Hg

/-! ## The run and the frame -/

set_option backward.isDefEq.respectTransparency.types false in
set_option maxHeartbeats 800000 in
/-- The launch, with every semaphore counter at zero at the end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Gen
-- ==== Proof.Value.Blk.lean ====
/-
  The passes' payloads over the extended reals, read at an index.
-/
module

public import proofs.«01_k».proof.Proof.Passes
public import Idealize.ShloMosaic.Lib.Pointwise

@[expose] public section

set_option maxRecDepth 16384

noncomputable section

namespace Cert.Attn

open Idealize.ShloMosaic Idealize.ShloMosaic.TcCoe

/-! ## The payloads of one chunk -/

theorem pix_at (x : FVec Ideal SSrcC .f32) (r : Fin 512) (c : Fin 256) :
    pix x (ix2 r c) = x (ix3 ⟨r.val / 64, by omega⟩ ⟨r.val % 64, by omega⟩ c) := by
  pointwise [pix]
theorem total_at (a : FVec Ideal SPix .f32) : total a = ∑ r : Fin 512, ∑ c : Fin 256, a (ix2 r c) := by
  pointwise [total]
theorem score_at (x : FVec Ideal SSrcC .f32) (w : FVec Ideal SW .bf16) (r : Fin 512) (l : Fin 128) :
    score x w (ix2 r l) = ∑ c : Fin 256, x (ix3 ⟨r.val / 64, by omega⟩ ⟨r.val % 64, by omega⟩ c) * w (ix2 c l) := by
  pointwise [score, pix]
theorem spread_at (p : FVec Ideal SRowC .f32) (h : Fin 8) (v : Fin 64) (c : Fin 256) :
    spread p (ix3 h v c) = p (ix2 ⟨h.val * 64 + v.val, by omega⟩ ⟨c.val % 128, by omega⟩) := by
  pointwise [spread]
  by_cases hc : (c : ℕ) < 128
  · rw [dif_pos hc]; congr 2; exact Fin.ext (Nat.mod_eq_of_lt hc).symm
  · rw [dif_neg hc]; congr 2; apply Fin.ext; simp only; omega
theorem wgt_at (r sh : Ideal .f32) (z : FVec Ideal SRowC .f32) (i : SRowC.Idx) :
    wgt r sh z i = Ideal.exp2 ((z i - sh) * r) := by
  pointwise [wgt]
  rfl
theorem outInit_at (x : FVec Ideal SSrcC .f32) (p : FVec Ideal SRowC .f32) (h : Fin 8) (v : Fin 64) (c : Fin 256) :
    outInit x p (ix4 0 h v c) = x (ix3 h v c) * spread p (ix3 h v c) := by
  pointwise [outInit, asOut, recast]
theorem outMid_at (o : FVec Ideal SOutC .f32) (x : FVec Ideal SSrcC .f32) (p : FVec Ideal SRowC .f32) (h : Fin 8) (v : Fin 64) (c : Fin 256) :
    outMid o x p (ix4 0 h v c) = o (ix4 0 h v c) + x (ix3 h v c) * spread p (ix3 h v c) := by
  pointwise [outMid, asOut, asSrc, recast]
theorem outLast_at (o : FVec Ideal SOutC .f32) (x : FVec Ideal SSrcC .f32) (p i : FVec Ideal SRowC .f32) (h : Fin 8) (v : Fin 64) (c : Fin 256) :
    outLast o x p i (ix4 0 h v c) = o (ix4 0 h v c) * spread i (ix3 h v c) + x (ix3 h v c) * spread (mulf p i) (ix3 h v c) := by
  pointwise [outLast, asOut, asSrc, recast]
theorem rowOf_at (p : FVec Ideal SRowC .f32) (i : SRowC.Idx) : rowOf p i = p i := by
  pointwise [rowOf]
theorem invOf_at (l lo p : FVec Ideal SRowC .f32) (i : SRowC.Idx) : invOf l lo p i = Ideal.div 1 (l i + lo i + p i) := by
  pointwise [invOf]
theorem meanOf_at (a : FVec Ideal SPix .f32) : meanOf a = total a * Ideal.ofBits .f32 0x35800000#32 := by
  pointwise [meanOf]
theorem rstdOf_at (lg : Ideal .f32) (s q : FVec Ideal SPix .f32) :
    rstdOf lg s q = Ideal.rsqrt (total q * Ideal.ofBits .f32 0x35800000#32 - meanOf s * meanOf s + Ideal.ofBits .f32 0x3727C5AC#32) * lg := by
  pointwise [rstdOf]
  rfl

/-! ## Chunks of a block, pixel by pixel -/

theorem srcRows_at (x : FVec Ideal SSrc .f32) (h a : Fin 8) (v : Fin 64) (c : Fin 256) :
    srcRows (F := Ideal) x h (ix3 a v c) = x (ix3 ⟨h.val * 8 + a.val, by omega⟩ v c) := by
  unfold srcRows
  congr 1
  idx_ext
theorem wRead_eq (w : FVec Ideal SW .bf16) : wRead (F := Ideal) w = w := by
  funext i
  unfold wRead
  congr 1
  idx_ext
theorem row_emb (h : Fin 8) (r : Fin 512) (l : Fin 128) :
    (rRow h).emb (ix2 r l) = (ix2 ⟨512 * h.val + r.val, by omega⟩ l : SRow.Idx) := by
  idx_ext
theorem out_emb (h a : Fin 8) (v : Fin 64) (c : Fin 256) :
    (rOut h).emb (ix4 0 a v c) = (ix4 0 ⟨8 * h.val + a.val, by omega⟩ v c : SOut.Idx) := by
  idx_ext

/-- The pixel a chunk's row is, -/
abbrev rowAt (y v : Fin 64) (l : Fin 128) : SRow.Idx := ix2 ⟨64 * y.val + v.val, by omega⟩ l
/-- and the lane a channel reads. -/
abbrev laneOf (c : Fin 256) : Fin 128 := ⟨c.val % 128, by omega⟩

theorem rowAt_emb (y v : Fin 64) (l : Fin 128) :
    rowAt y v l = (rRow ⟨y.val / 8, by omega⟩).emb (ix2 ⟨(y.val % 8) * 64 + v.val, by omega⟩ l) := by
  rw [row_emb]
  idx_ext
theorem outAt_emb (y v : Fin 64) (c : Fin 256) :
    (ix4 0 y v c : SOut.Idx) = (rOut ⟨y.val / 8, by omega⟩).emb (ix4 0 ⟨y.val % 8, by omega⟩ v c) := by
  rw [out_emb]
  idx_ext

variable (lg s : Ideal .f32) (w : FVec Ideal SW .bf16)

/-- A pixel's weight before division. -/
def pwt (x : FVec Ideal SSrc .f32) (y v : Fin 64) (l : Fin 128) : EReal :=
  Ideal.exp2 (((∑ c : Fin 256, x (ix3 y v c) * w (ix2 c l)) - blkS s x) * blkR lg x)

theorem wgts_at (x : FVec Ideal SSrc .f32) (y v : Fin 64) (l : Fin 128) :
    wgts lg s w x ⟨y.val / 8, by omega⟩ (ix2 ⟨(y.val % 8) * 64 + v.val, by omega⟩ l) = pwt lg s w x y v l := by
  unfold wgts pwt scores
  rw [wgt_at, score_at, wRead_eq]
  congr 3
  refine Finset.sum_congr rfl fun c _ => ?_
  rw [srcRows_at]
  congr 2
  idx_ext

theorem spread_wgts (x : FVec Ideal SSrc .f32) (p : FVec Ideal SRowC .f32) (y v : Fin 64) (c : Fin 256) :
    spread p (ix3 ⟨y.val % 8, by omega⟩ v c) = p (ix2 ⟨(y.val % 8) * 64 + v.val, by omega⟩ (laneOf c)) :=
  spread_at p _ v c
theorem srcRows_pix (x : FVec Ideal SSrc .f32) (y v : Fin 64) (c : Fin 256) :
    srcRows (F := Ideal) x ⟨y.val / 8, by omega⟩ (ix3 ⟨y.val % 8, by omega⟩ v c) = x (ix3 y v c) := by
  rw [srcRows_at]
  congr 1
  idx_ext

theorem initL_at (x : FVec Ideal SSrc .f32) (l : FVec Ideal SRow .f32) (y v : Fin 64) (j : Fin 128) :
    initL lg s w x l (rowAt y v j) = pwt lg s w x y v j := by
  unfold initL
  rw [rowAt_emb, ups_lt row_apart _ _ 8 (Fin.isLt _) (le_refl _), rowOf_at, wgts_at]
theorem midL_at (x : FVec Ideal SSrc .f32) (l : FVec Ideal SRow .f32) (y v : Fin 64) (j : Fin 128) :
    midL lg s w x l (rowAt y v j) = (l (rowAt y v j) : EReal) + pwt lg s w x y v j := by
  unfold midL
  rw [rowAt_emb, ups_lt row_apart _ _ 8 (Fin.isLt _) (le_refl _), rowOf_at]
  pointwise [rowRows]
  rw [wgts_at]
theorem initO_at (x : FVec Ideal SSrc .f32) (o : FVec Ideal SOut .f32) (y v : Fin 64) (c : Fin 256) :
    initO lg s w x o (ix4 0 y v c) = x (ix3 y v c) * pwt lg s w x y v (laneOf c) := by
  unfold initO
  rw [outAt_emb, ups_lt out_apart _ _ 8 (Fin.isLt _) (le_refl _), outInit_at, spread_wgts x, wgts_at, srcRows_pix]
theorem midO_at (x : FVec Ideal SSrc .f32) (o : FVec Ideal SOut .f32) (y v : Fin 64) (c : Fin 256) :
    midO lg s w x o (ix4 0 y v c) = (o (ix4 0 y v c) : EReal) + x (ix3 y v c) * pwt lg s w x y v (laneOf c) := by
  unfold midO
  rw [outAt_emb, ups_lt out_apart _ _ 8 (Fin.isLt _) (le_refl _), outMid_at, spread_wgts x, wgts_at, srcRows_pix]
  rfl
theorem lastO_at (x : FVec Ideal SSrc .f32) (l lo : FVec Ideal SRow .f32) (o : FVec Ideal SOut .f32) (y v : Fin 64) (c : Fin 256) :
    lastO lg s w x l lo o (ix4 0 y v c)
      = (o (ix4 0 y v c) : EReal) * Ideal.div 1 (l (rowAt y v (laneOf c)) + lo (rowAt y v (laneOf c)) + pwt lg s w x y v (laneOf c))
        + x (ix3 y v c) * (pwt lg s w x y v (laneOf c)
          * Ideal.div 1 (l (rowAt y v (laneOf c)) + lo (rowAt y v (laneOf c)) + pwt lg s w x y v (laneOf c))) := by
  unfold lastO
  rw [outAt_emb, ups_lt out_apart _ _ 8 (Fin.isLt _) (le_refl _), outLast_at, spread_wgts x, spread_wgts x, srcRows_pix]
  pointwise []
  rw [invOf_at, wgts_at, rowAt_emb]
  rfl

/-! ## The sums over a block -/

theorem accs_at (x : FVec Ideal SSrc .f32) (r : Fin 512) (c : Fin 256) : ∀ n, n ≤ 8 →
    (accs (F := Ideal) x n).1 (ix2 r c) = ∑ k ∈ Finset.range n,
        (if hk : k < 8 then x (ix3 ⟨k * 8 + r.val / 64, by omega⟩ ⟨r.val % 64, by omega⟩ c) else 0)
    ∧ (accs (F := Ideal) x n).2 (ix2 r c) = ∑ k ∈ Finset.range n,
        (if hk : k < 8 then x (ix3 ⟨k * 8 + r.val / 64, by omega⟩ ⟨r.val % 64, by omega⟩ c)
          * x (ix3 ⟨k * 8 + r.val / 64, by omega⟩ ⟨r.val % 64, by omega⟩ c) else 0)
  | 0, _ => by
    constructor <;> (unfold accs; pointwise [acc0]; simp)
  | n + 1, hn => by
    have h8 : n < 8 := by omega
    obtain ⟨h1, h2⟩ := accs_at x r c n (by omega)
    rw [show n + 1 = (⟨n, h8⟩ : Fin 8).val + 1 from rfl, accs_succ]
    constructor
    · pointwise []
      rw [h1, pix_at, srcRows_at, Finset.sum_range_succ, dif_pos h8]
    · pointwise []
      rw [h2, pix_at, srcRows_at, Finset.sum_range_succ, dif_pos h8]

/-- A sum over chunks of rows, pixel by pixel, is the sum over the block. -/
theorem sum_chunks (f : Fin 64 → Fin 64 → Fin 256 → EReal) :
    (∑ r : Fin 512, ∑ c : Fin 256, ∑ k ∈ Finset.range 8,
        (if hk : k < 8 then f ⟨k * 8 + r.val / 64, by omega⟩ ⟨r.val % 64, by omega⟩ c else 0))
      = ∑ y : Fin 64, ∑ v : Fin 64, ∑ c : Fin 256, f y v c := by
  have h1 : ∀ (r : Fin 512) (c : Fin 256), (∑ k ∈ Finset.range 8,
        (if hk : k < 8 then f ⟨k * 8 + r.val / 64, by omega⟩ ⟨r.val % 64, by omega⟩ c else 0))
      = ∑ k : Fin 8, f ⟨k.val * 8 + r.val / 64, by omega⟩ ⟨r.val % 64, by omega⟩ c := by
    intro r c
    rw [Finset.sum_range]
    exact Finset.sum_congr rfl fun k _ => dif_pos k.isLt
  simp only [h1]
  rw [Fin.sum_univ_tiles 8 64 rfl, Fin.sum_univ_tiles 8 8 rfl (fun y : Fin 64 => _)]
  have h2 : ∀ (a : Fin 8) (v : Fin 64) (c : Fin 256) (k : Fin 8),
      f ⟨k.val * 8 + (a.val * 64 + v.val) / 64, by omega⟩ ⟨(a.val * 64 + v.val) % 64, by omega⟩ c
        = f ⟨k.val * 8 + a.val, by omega⟩ v c := by
    intro a v c k
    congr 2 <;> omega
  simp only [h2]
  rw [Finset.sum_comm (s := (Finset.univ : Finset (Fin 8))) (t := (Finset.univ : Finset (Fin 8)))]
  refine Finset.sum_congr rfl fun a _ => ?_
  exact (Finset.sum_congr rfl fun v _ => Finset.sum_comm).trans Finset.sum_comm

theorem total_fst (x : FVec Ideal SSrc .f32) :
    total (accs (F := Ideal) x 8).1 = ∑ y : Fin 64, ∑ v : Fin 64, ∑ c : Fin 256, x (ix3 y v c) := by
  rw [total_at, ← sum_chunks fun y v c => x (ix3 y v c)]
  exact Finset.sum_congr rfl fun r _ => Finset.sum_congr rfl fun c _ => (accs_at x r c 8 (le_refl _)).1
theorem total_snd (x : FVec Ideal SSrc .f32) :
    total (accs (F := Ideal) x 8).2 = ∑ y : Fin 64, ∑ v : Fin 64, ∑ c : Fin 256, x (ix3 y v c) * x (ix3 y v c) := by
  rw [total_at, ← sum_chunks fun y v c => x (ix3 y v c) * x (ix3 y v c)]
  exact Finset.sum_congr rfl fun r _ => Finset.sum_congr rfl fun c _ => (accs_at x r c 8 (le_refl _)).2

end Cert.Attn
end
-- ==== Proof.Value.Real.lean ====
/-
  The values in the reals: the softmax over the sources of the normalised scores, and the facts that put the sums of the
  pass and the sums of the specification in the same form.
-/
module

public import proofs.«01_k».proof.Proof.Value.Blk

@[expose] public section

noncomputable section

namespace Cert.Attn

open Idealize.ShloMosaic

theorem coe_sum {ι : Type} (s : Finset ι) (f : ι → ℝ) : ((∑ i ∈ s, f i : ℝ) : EReal) = ∑ i ∈ s, ((f i : ℝ) : EReal) := by
  classical
  induction s using Finset.induction with
  | empty => simp
  | insert a s ha ih => rw [Finset.sum_insert ha, Finset.sum_insert ha, EReal.coe_add, ih]

/-- A source's channels at its pixels. -/
abbrev Img : Type := Fin 64 → Fin 64 → Fin 256 → ℝ

/-- The sum over a source. -/
def tot (f : Img) : ℝ := ∑ y : Fin 64, ∑ v : Fin 64, ∑ c : Fin 256, f y v c

def eps : ℝ := 10995116 / 1099511627776

theorem eps_pos : 0 < eps := by unfold eps; norm_num

def mu (f : Img) : ℝ := tot f / 1048576
def va (f : Img) : ℝ := tot (fun y v c => f y v c * f y v c) / 1048576 - mu f * mu f
def rs (f : Img) : ℝ := (√(va f + eps))⁻¹

theorem tot_const (k : ℝ) : tot (fun _ _ _ => k) = 1048576 * k := by
  unfold tot
  simp only [Finset.sum_const, Finset.card_univ, Fintype.card_fin, nsmul_eq_mul]
  norm_num
  ring

/-- The mean of the squared deviations is the mean of the squares less the squared mean. -/
theorem va_eq (f : Img) : tot (fun y v c => (f y v c - mu f) * (f y v c - mu f)) / 1048576 = va f := by
  have h : tot (fun y v c => (f y v c - mu f) * (f y v c - mu f))
      = tot (fun y v c => f y v c * f y v c) - 2 * mu f * tot f + 1048576 * (mu f * mu f) := by
    rw [← tot_const]
    unfold tot
    simp only [Finset.mul_sum, ← Finset.sum_sub_distrib, ← Finset.sum_add_distrib]
    refine Finset.sum_congr rfl fun y _ => Finset.sum_congr rfl fun v _ => Finset.sum_congr rfl fun c _ => ?_
    ring
  rw [h, va]
  have h2 : tot f = 1048576 * mu f := by unfold mu; ring
  rw [h2]
  ring

theorem va_nonneg (f : Img) : 0 ≤ va f := by
  rw [← va_eq]
  refine div_nonneg ?_ (by norm_num)
  exact Finset.sum_nonneg fun y _ => Finset.sum_nonneg fun v _ => Finset.sum_nonneg fun c _ => mul_self_nonneg _

theorem va_eps_pos (f : Img) : 0 < va f + eps := add_pos_of_nonneg_of_pos (va_nonneg f) eps_pos

/-- A pixel's weight before division: `w` the folded channel weights, `S` their sum. -/
def pw (w : Fin 256 → ℝ) (S : ℝ) (f : Img) (y v : Fin 64) : ℝ :=
  Real.exp (((∑ c : Fin 256, f y v c * w c) - mu f * S) * rs f)

theorem pw_pos (w : Fin 256 → ℝ) (S : ℝ) (f : Img) (y v : Fin 64) : 0 < pw w S f y v := Real.exp_pos _

/-- The weighted mean of the sources at a pixel. -/
def attn (w : Fin 256 → ℝ) (S : ℝ) (f : Fin 9 → Img) (y v : Fin 64) (c : Fin 256) : ℝ :=
  (∑ n : Fin 9, f n y v c * pw w S (f n) y v) / ∑ n : Fin 9, pw w S (f n) y v

/-- The specification's score at a pixel: the normalised, scaled and shifted channels against the query. -/
def lgt (k g be : Fin 256 → ℝ) (f : Img) (y v : Fin 64) : ℝ :=
  ∑ c : Fin 256, k c * ((f y v c - mu f) * rs f * g c + be c)

/-- It is the pass's score plus what does not depend on the source. -/
theorem lgt_eq (k g be : Fin 256 → ℝ) (f : Img) (y v : Fin 64) :
    lgt k g be f y v
      = ((∑ c : Fin 256, f y v c * (k c * g c)) - mu f * ∑ c : Fin 256, k c * g c) * rs f + ∑ c : Fin 256, k c * be c := by
  unfold lgt
  rw [Finset.mul_sum, ← Finset.sum_sub_distrib, Finset.sum_mul, ← Finset.sum_add_distrib]
  exact Finset.sum_congr rfl fun c _ => by ring

/-- Softmax with any shift subtracted is the weighted mean. -/
theorem softmax_eq (k g be : Fin 256 → ℝ) (f : Fin 9 → Img) (M : ℝ) (y v : Fin 64) (c : Fin 256) :
    (∑ n : Fin 9, (Real.exp (lgt k g be (f n) y v - M) / ∑ j : Fin 9, Real.exp (lgt k g be (f j) y v - M)) * f n y v c)
      = attn (fun c => k c * g c) (∑ c, k c * g c) f y v c := by
  have h : ∀ n, Real.exp (lgt k g be (f n) y v - M)
      = pw (fun c => k c * g c) (∑ c, k c * g c) (f n) y v * Real.exp ((∑ c, k c * be c) - M) := by
    intro n
    rw [lgt_eq, pw, ← Real.exp_add]
    congr 1
    ring
  simp only [h]
  rw [← Finset.sum_mul]
  unfold attn
  have hE := Real.exp_pos ((∑ c, k c * be c) - M)
  have hP : 0 < ∑ n : Fin 9, pw (fun c => k c * g c) (∑ c, k c * g c) (f n) y v :=
    Finset.sum_pos (fun n _ => pw_pos _ _ _ _ _) ⟨0, Finset.mem_univ _⟩
  rw [Finset.sum_div]
  refine Finset.sum_congr rfl fun n _ => ?_
  field_simp

/-! ## The constants -/

theorem bits_n : Ideal.ofBits .f32 0x49800000#32 = ((1048576 : ℝ) : EReal) := by
  simp [Ideal.ofBits, Ideal.ieee, -EReal.coe_mul]; norm_num
theorem bits_inv_n : Ideal.ofBits .f32 0x35800000#32 = ((1 / 1048576 : ℝ) : EReal) := by
  simp [Ideal.ofBits, Ideal.ieee, -EReal.coe_mul]; norm_num
theorem bits_eps : Ideal.ofBits .f32 0x3727C5AC#32 = ((eps : ℝ) : EReal) := by
  simp [Ideal.ofBits, Ideal.ieee, eps, -EReal.coe_mul]; norm_num

/-! ## The pass on real blocks -/

section Pass

variable (f : Img) (x : FVec Ideal SSrc .f32) (hx : ∀ y v c, x (ix3 y v c) = ((f y v c : ℝ) : EReal))
variable (w : FVec Ideal SW .bf16) (wr : Fin 256 → ℝ) (hw : ∀ c l, w (ix2 c l) = ((wr c : ℝ) : EReal))
variable (lg s : Ideal .f32) (S : ℝ) (hs : s = ((S : ℝ) : EReal)) (hl : lg = (((Real.log 2)⁻¹ : ℝ) : EReal))

include hx

theorem mean_coe : (meanOf (accs (F := Ideal) x 8).1 : EReal) = ((mu f : ℝ) : EReal) := by
  rw [meanOf_at, total_fst, bits_inv_n]
  simp only [hx, ← coe_sum, ← EReal.coe_mul]
  unfold mu tot
  congr 1
  ring

include hl in
theorem blkR_coe : (blkR lg x : EReal) = ((rs f * (Real.log 2)⁻¹ : ℝ) : EReal) := by
  unfold blkR
  rw [rstdOf_at, mean_coe f x hx, total_snd, bits_inv_n, bits_eps, hl]
  simp only [hx, ← coe_sum, ← EReal.coe_mul, ← EReal.coe_sub, ← EReal.coe_add]
  have e : (∑ y : Fin 64, ∑ v : Fin 64, ∑ c : Fin 256, f y v c * f y v c) * (1 / 1048576) - mu f * mu f + eps = va f + eps := by
    unfold va tot
    ring
  rw [e, Ideal.rsqrt_coe, if_neg (not_lt.mpr (va_eps_pos f).le), if_neg (va_eps_pos f).ne']
  rw [← EReal.coe_mul]
  rfl

include hw hs hl in
theorem pwt_coe (y v : Fin 64) (l : Fin 128) : pwt lg s w x y v l = ((pw wr S f y v : ℝ) : EReal) := by
  unfold pwt
  rw [blkR_coe f x hx lg hl]
  have e : (blkS s x : EReal) = ((mu f * S : ℝ) : EReal) := by
    unfold blkS
    have h0 := mean_coe f x hx
    rw [EReal.coe_mul, ← h0, ← hs]
    rfl
  rw [e]
  simp only [hx, hw, ← coe_sum, ← EReal.coe_mul, ← EReal.coe_sub]
  rw [Ideal.exp2_coe]
  congr 1
  unfold pw
  refine (Real.rpow_def_of_pos two_pos _).trans ?_
  congr 1
  have h2 : Real.log 2 ≠ 0 := (Real.log_pos one_lt_two).ne'
  field_simp

end Pass

/-- The nine sources of one batch entry: the eight blocks, and the query's own. -/
def imgs (b : (⟨5, ![8, 4, 256, 64, 64]⟩ : Shape).Idx → ℝ) (x : (⟨4, ![4, 256, 64, 64]⟩ : Shape).Idx → ℝ) (k : Fin 4) (n : Fin 9) : Img :=
  fun y v c => if h : n.val < 8 then b (ix5 ⟨n.val, h⟩ k c y v) else x (ix4 k c y v)

theorem sum_nine (g : Fin 9 → ℝ) : ∑ n : Fin 9, g n = g 0 + g 1 + g 2 + g 3 + g 4 + g 5 + g 6 + g 7 + g 8 := by
  rw [Fin.sum_univ_castSucc, Fin.sum_univ_eight]
  rfl

/-- What a row's three points leave in the result window. -/
theorem last_coe (F : Fin 9 → Img) (x : FVec Ideal SSrc .f32) (B C : Fin 4 → FVec Ideal SSrc .f32)
    (w : FVec Ideal SW .bf16) (wr : Fin 256 → ℝ) (lg s : Ideal .f32) (S : ℝ)
    (hx : ∀ y v c, x (ix3 y v c) = ((F 8 y v c : ℝ) : EReal))
    (hB : ∀ j y v c, B j (ix3 y v c) = ((F ⟨j.val, by omega⟩ y v c : ℝ) : EReal))
    (hC : ∀ j y v c, C j (ix3 y v c) = ((F ⟨4 + j.val, by omega⟩ y v c : ℝ) : EReal))
    (hw : ∀ c l, w (ix2 c l) = ((wr c : ℝ) : EReal)) (hs : s = ((S : ℝ) : EReal)) (hl : lg = (((Real.log 2)⁻¹ : ℝ) : EReal))
    (y v : Fin 64) (c : Fin 256) :
    (stLast (F := Ideal) lg s w C (stMid lg s w B (stInit lg s w x))).o (ix4 0 y v c) = ((attn wr S F y v c : ℝ) : EReal) := by
  have px := fun l => pwt_coe (F 8) x hx w wr hw lg s S hs hl y v l
  have pB := fun j l => pwt_coe (F ⟨j.val, by omega⟩) (B j) (hB j) w wr hw lg s S hs hl y v l
  have pC := fun j l => pwt_coe (F ⟨4 + j.val, by omega⟩) (C j) (hC j) w wr hw lg s S hs hl y v l
  have z : (Scalar.ofBits .f32 0x00000000#32 : Ideal .f32) = ((0 : ℝ) : EReal) := by
    change Ideal.ofBits .f32 0x00000000#32 = _
    simp [Ideal.ofBits, Ideal.ieee]
  unfold stLast stMid stInit fin1 mid1 mid0
  simp only [lastO_at, midO_at, midL_at, initO_at, initL_at, zeros, z, px, pB, pC, hx, hB, hC]
  rw [show (1 : EReal) = ((1 : ℝ) : EReal) from rfl]
  simp only [← EReal.coe_mul, ← EReal.coe_add]
  have hp := fun n => pw_pos wr S (F n) y v
  rw [Ideal.div_coe (by
    have h0 := hp 0; have h1 := hp 1; have h2 := hp 2; have h3 := hp 3; have h4 := hp 4
    have h5 := hp 5; have h6 := hp 6; have h7 := hp 7; have h8 := hp 8
    refine ne_of_gt ?_
    change 0 < 0 + pw wr S (F 1) y v + pw wr S (F 3) y v + pw wr S (F 5) y v
      + (pw wr S (F 8) y v + pw wr S (F 0) y v + pw wr S (F 2) y v + pw wr S (F 4) y v + pw wr S (F 6) y v) + pw wr S (F 7) y v
    linarith)]
  simp only [← EReal.coe_mul, ← EReal.coe_add]
  congr 1
  change (F 8 y v c * pw wr S (F 8) y v + F 0 y v c * pw wr S (F 0) y v + F 1 y v c * pw wr S (F 1) y v
      + F 2 y v c * pw wr S (F 2) y v + F 3 y v c * pw wr S (F 3) y v + F 4 y v c * pw wr S (F 4) y v
      + F 5 y v c * pw wr S (F 5) y v + F 6 y v c * pw wr S (F 6) y v)
        * (1 * (1 / (0 + pw wr S (F 1) y v + pw wr S (F 3) y v + pw wr S (F 5) y v
          + (pw wr S (F 8) y v + pw wr S (F 0) y v + pw wr S (F 2) y v + pw wr S (F 4) y v + pw wr S (F 6) y v) + pw wr S (F 7) y v)))
      + F 7 y v c * (pw wr S (F 7) y v
        * (1 * (1 / (0 + pw wr S (F 1) y v + pw wr S (F 3) y v + pw wr S (F 5) y v
          + (pw wr S (F 8) y v + pw wr S (F 0) y v + pw wr S (F 2) y v + pw wr S (F 4) y v + pw wr S (F 6) y v) + pw wr S (F 7) y v)))) = _
  unfold attn
  rw [sum_nine, sum_nine, div_eq_mul_one_div]
  have e : 0 + pw wr S (F 1) y v + pw wr S (F 3) y v + pw wr S (F 5) y v
      + (pw wr S (F 8) y v + pw wr S (F 0) y v + pw wr S (F 2) y v + pw wr S (F 4) y v + pw wr S (F 6) y v) + pw wr S (F 7) y v
    = pw wr S (F 0) y v + pw wr S (F 1) y v + pw wr S (F 2) y v + pw wr S (F 3) y v + pw wr S (F 4) y v + pw wr S (F 5) y v
      + pw wr S (F 6) y v + pw wr S (F 7) y v + pw wr S (F 8) y v := by ring
  rw [e]
  ring

end Cert.Attn
end
-- ==== Proof.Value.Ops.lean ====
/-
  What the kernel leaves in its result, read from its passes as real-number formulas.
-/
module

public import proofs.«01_k».proof.Proof.Value.Real
public import proofs.«01_k».proof.Proof.KernelIdeal.Runs
public import Idealize.ShloMosaic.Lib.Pipeline.ValueKit
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

theorem idx : ∀ t : Fin cfg0.N,
    win0_0.index t = ![t.val % 3 - 1, t.val / 3, 0, 0, 0]
    ∧ win0_1.index t = ![if t.val % 3 = 2 then min (t.val / 3 + 1) 3 else t.val / 3, 0, 0, 0]
    ∧ win0_2.index t = ![0, 0] ∧ win0_3.index t = ![0, 0] ∧ win0_4.index t = ![t.val / 3, 0, 0, 0] :=
  (by decide +kernel : ∀ t : Fin grid0.N, _)

abbrev A0 (c : Dev nD) : FVec Ideal S8x4x256x64x64 .f32 := m ((c : Thread nD τ).loc main_arg0)
abbrev A1 (c : Dev nD) : FVec Ideal S4x256x64x64 .f32 := m ((c : Thread nD τ).loc main_arg1)
abbrev A2 (c : Dev nD) : FVec Ideal S256 .f32 := m ((c : Thread nD τ).loc main_arg2)
abbrev A3 (c : Dev nD) : FVec Ideal S256 .f32 := m ((c : Thread nD τ).loc main_arg3)

theorem V_v1 (c : Dev nD) (n : Fin 8) (b : Fin 4) (y v : Fin 64) (k : Fin 256) :
    (V m c main_v1 : FVec Ideal S8x4x64x64x256 .f32) (ix5 n b y v k) = A0 m c (ix5 n b k y v) := by
  unfold V V0
  simp only [hostOps0, List.flatten_cons, List.flatten_nil, List.append_nil]
  after_results
  pointwise

theorem V_v2 (c : Dev nD) (b : Fin 4) (y v : Fin 64) (k : Fin 256) :
    (V m c main_v2 : FVec Ideal S4x64x64x256 .f32) (ix4 b y v k) = A1 m c (ix4 b k y v) := by
  unfold V V0
  simp only [hostOps0, List.flatten_cons, List.flatten_nil, List.append_nil]
  after_results
  pointwise

theorem V_v5 (c : Dev nD) (k : Fin 256) (l : Fin 128) :
    (V m c main_v5 : FVec Ideal S256x128 .bf16) (ix2 k l) = (A2 m c (ix1 k) * A3 m c (ix1 k) : EReal) := by
  unfold V V0
  simp only [hostOps0, List.flatten_cons, List.flatten_nil, List.append_nil]
  after_results
  pointwise

theorem V_v7 (c : Dev nD) : (V m c main_v7 : FVec Ideal S1x1 .f32) (ix2 0 0) = (∑ k : Fin 256, A2 m c (ix1 k) * A3 m c (ix1 k) : EReal) := by
  unfold V V0
  simp only [hostOps0, List.flatten_cons, List.flatten_nil, List.append_nil]
  after_results
  pointwise

theorem tN (t : Fin cfg0.N) : t.val < 12 := t.isLt

theorem wAt_at (c : Dev nD) (t : Fin cfg0.N) (k : Fin 256) (l : Fin 128) :
    (wAt m c t : FVec Ideal S256x128 .bf16) (ix2 k l) = (A2 m c (ix1 k) * A3 m c (ix1 k) : EReal) := by
  rw [← V_v5 m c k l]
  unfold wAt
  blk_simp [iblk]
  blk_ext [idx t]

theorem sAt_at (c : Dev nD) (t : Fin cfg0.N) :
    (sAt m c t : EReal) = ∑ k : Fin 256, A2 m c (ix1 k) * A3 m c (ix1 k) := by
  rw [← V_v7 m c]
  unfold sAt Attn.wordOf
  blk_simp [iblk]
  blk_ext [idx t]

theorem resh4 (h : Attn.SSrc.numel = (⟨4, ![1, 64, 64, 256]⟩ : Shape).numel) (y v : Fin 64) (k : Fin 256) :
    Shape.reshapeEquiv h (ix3 y v k) = ix4 (0 : Fin 1) y v k := by
  pointwise
theorem resh5 (h : Attn.SSrc.numel = (⟨5, ![1, 1, 64, 64, 256]⟩ : Shape).numel) (y v : Fin 64) (k : Fin 256) :
    Shape.reshapeEquiv h (ix3 y v k) = ix5 (0 : Fin 1) (0 : Fin 1) y v k := by
  pointwise

theorem xAt_at (c : Dev nD) (t : Fin cfg0.N) (h : t.val % 3 = 0) (y v : Fin 64) (k : Fin 256) :
    (xAt m c t : FVec Ideal Attn.SSrc .f32) (ix3 y v k) = A1 m c (ix4 ⟨t.val / 3, by have := tN t; omega⟩ k y v) := by
  rw [← V_v2 m c]
  unfold xAt Attn.xOf
  rw [resh4]
  blk_simp [iblk]
  blk_ext [idx t]
  rw [if_neg (by omega), Nat.add_zero]

theorem blksAt_at (c : Dev nD) (t : Fin cfg0.N) (j : Fin 4) (y v : Fin 64) (k : Fin 256) :
    (blksAt m c t j : FVec Ideal Attn.SSrc .f32) (ix3 y v k)
      = A0 m c (ix5 ⟨4 * (t.val % 3 - 1) + j.val, by omega⟩ ⟨t.val / 3, by have := tN t; omega⟩ k y v) := by
  rw [← V_v1 m c]
  unfold blksAt Attn.blkOf
  rw [resh5]
  blk_simp [iblk]
  blk_ext [idx t]

section Reals

variable (c : Dev nD) (b : S8x4x256x64x64.Idx → ℝ) (x : S4x256x64x64.Idx → ℝ) (w g : S256.Idx → ℝ)
variable (h0 : ∀ i, A0 m c i = ((b i : ℝ) : EReal)) (h1 : ∀ i, A1 m c i = ((x i : ℝ) : EReal))
variable (h2 : ∀ i, A2 m c i = ((w i : ℝ) : EReal)) (h3 : ∀ i, A3 m c i = ((g i : ℝ) : EReal))

/-- The folded channel weights, -/
def wr (k : Fin 256) : ℝ := w (ix1 k) * g (ix1 k)

/-- and the result at an index. -/
def outR (i : S4x64x64x256.Idx) : ℝ :=
  Attn.attn (wr w g) (∑ k, wr w g k) (Attn.imgs b x (i 0)) (i 1) (i 2) (i 3)

include h2 h3 in
theorem wAt_coe (t : Fin cfg0.N) (k : Fin 256) (l : Fin 128) :
    (wAt m c t : FVec Ideal S256x128 .bf16) (ix2 k l) = ((wr w g k : ℝ) : EReal) := by
  rw [wAt_at, h2, h3, ← EReal.coe_mul]
  rfl
include h2 h3 in
theorem sAt_coe (t : Fin cfg0.N) : (sAt m c t : EReal) = ((∑ k, wr w g k : ℝ) : EReal) := by
  rw [sAt_at, Attn.coe_sum]
  exact Finset.sum_congr rfl fun k _ => by rw [h2, h3, ← EReal.coe_mul]; rfl

include h2 h3 in
theorem same (t t' : Fin cfg0.N) : wAt m c t = wAt m c t' ∧ sAt m c t = sAt m c t' := by
  constructor
  · funext i
    idx_vars i
    exact (wAt_coe m c w g h2 h3 t i0 i1).trans (wAt_coe m c w g h2 h3 t' i0 i1).symm
  · exact (sAt_coe m c w g h2 h3 t).trans (sAt_coe m c w g h2 h3 t').symm

theorem lg_coe : (lg : Ideal .f32) = (((Real.log 2)⁻¹ : ℝ) : EReal) :=
  IdealRules.named_const.ideal_named_scalar _ _ _ _ rfl

include h0 h1 h2 h3 in
/-- A row's last point leaves the result block. -/
theorem row_out (t : Fin cfg0.N) (h : t.val % 3 = 2) (y v : Fin 64) (k : Fin 256) :
    ((stAt m c t.val t.isLt).o : FVec Ideal Attn.SOut .f32) (ix4 0 y v k)
      = ((outR b x w g (ix4 ⟨t.val / 3, by have := tN t; omega⟩ y v k) : ℝ) : EReal) := by
  have hN := tN t
  obtain ⟨t1, e1⟩ : ∃ t1 : Fin cfg0.N, t1.val = t.val - 1 := ⟨⟨t.val - 1, by omega⟩, rfl⟩
  obtain ⟨t0, e0⟩ : ∃ t0 : Fin cfg0.N, t0.val = t.val - 2 := ⟨⟨t.val - 2, by omega⟩, rfl⟩
  have s2 := stAt_last m c t h
  have s1 := stAt_mid m c t1 (by omega)
  have s0 := stAt_init m c t0 (by omega)
  have q : ∀ (n n' : ℕ) (p : n < cfg0.N) (p' : n' < cfg0.N), n = n' → stAt m c n p = stAt m c n' p' := by
    rintro n _ p p' rfl; rfl
  have q1 : ∀ p, stAt m c (t.val - 1) p = stAt m c t1.val t1.isLt := fun p => q _ _ p _ e1.symm
  have q0 : ∀ p, stAt m c (t1.val - 1) p = stAt m c t0.val t0.isLt := fun p => q _ _ p _ (by omega)
  rw [s2, q1, s1, q0, s0, (same m c w g h2 h3 t1 t).1, (same m c w g h2 h3 t1 t).2, (same m c w g h2 h3 t0 t).1,
    (same m c w g h2 h3 t0 t).2]
  refine (Attn.last_coe (Attn.imgs b x ⟨t.val / 3, by omega⟩) _ _ _ _ (wr w g) _ _ (∑ k, wr w g k) ?_ ?_ ?_
    (wAt_coe m c w g h2 h3 t) (sAt_coe m c w g h2 h3 t) lg_coe y v k).trans rfl
  · intro y v k
    rw [xAt_at m c t0 (by omega), h1]
    unfold Attn.imgs
    rw [dif_neg (by decide)]
    congr 2
    idx_ext
    all_goals omega
  · intro j y v k
    rw [blksAt_at m c t1, h0]
    unfold Attn.imgs
    rw [dif_pos (show j.val < 8 by omega)]
    congr 2
    idx_ext
    all_goals omega
  · intro j y v k
    rw [blksAt_at m c t, h0]
    unfold Attn.imgs
    rw [dif_pos (show 4 + j.val < 8 by omega)]
    congr 2
    idx_ext
    all_goals omega

include h0 h1 h2 h3 in
/-- The result array after the run. -/
theorem final : (dats m 0 c).arrAt 4 (cfgs 0).N = fun i : S4x64x64x256.Idx => ((outR b x w g i : ℝ) : EReal) := by
  refine (dats m 0 c).arrAt_eq_of_covers 4 _ (by decide +kernel) fun t hf y => ?_
  blk_simp
  rw [after0_4]
  have ht := (flush0_4 t).mp hf
  have hN := tN t
  obtain ⟨u, y0, v0, k0, rfl⟩ : ∃ (u : Fin 1) (y0 v0 : Fin 64) (k0 : Fin 256), y = (ix4 u y0 v0 k0 : Attn.SOut.Idx) :=
    ⟨y 0, y 1, y 2, y 3, by idx_ext⟩
  obtain rfl : u = 0 := Subsingleton.elim _ _
  refine (row_out m c b x w g h0 h1 h2 h3 t ht y0 v0 k0).trans ?_
  congr 1
  blk_ext [idx t]

include h0 h1 h2 h3 in
/-- The result of the program: the array's axes put back in order. -/
theorem tail : Pipeline.afterTail₀ cfgs (dats m) 0 (V0 m) [hostOps1] c main_v9
    = fun i : S4x256x64x64.Idx => ((outR b x w g (ix4 (i 0) (i 2) (i 3) (i 1)) : ℝ) : EReal) := by
  unfold Pipeline.afterTail₀
  simp only [hostOps1, List.flatten_cons, List.flatten_nil, List.append_nil]
  after_results
  have e := Pipeline.withArrays_arr spec0 launch0.win.arr_inj c (V0 m c) (fun w => (dats m 0 c).arrAt w (cfgs 0).N) 4
  rw [final m c b x w g h0 h1 h2 h3] at e
  erw [e]
  funext i
  idx_vars i
  pointwise

end Reals

end Cert.KernelIdeal.Gen
end
-- ==== Proof.Value.Ref.lean ====
/-
  The specification's term, stage by stage, read at an index over real arguments.
-/
module

public import proofs.«01_k».proof.Proof.Value.Real
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Attn (Img imgs mu va rs lgt attn tot coe_sum)

/-! ## The stages -/

abbrev T : Shape := S9x4x256x64x64

section Stages

variable (a0 : FVec Ideal S8x4x256x64x64 .f32) (a1 : FVec Ideal S4x256x64x64 .f32) (a2 a3 a4 : FVec Ideal S256 .f32)

def rV : FVec Ideal T .f32 :=
  fn_main_v1 (F := Ideal) a0 (broadcastInDim S1x4x256x64x64 ![1, 2, 3, 4] bcast_S4x256x64x64_S1x4x256x64x64_1_2_3_4 a1)
def rSum (X : FVec Ideal T .f32) : FVec Ideal S9x4x1x1x1 .f32 :=
  broadcastInDim S9x4x1x1x1 ![0, 1] bcast_S9x4_S9x4x1x1x1_0_1
    (Host.reduceAdd X (constant S_ .f32 0x00000000#32) reducesTo_S9x4x256x64x64_S9x4_d2_3_4 h_S_)
def rMean (X : FVec Ideal T .f32) : FVec Ideal S9x4x1x1x1 .f32 :=
  Host.divf (rSum X) (broadcastInDim S9x4x1x1x1 ![] bcast_S_S9x4x1x1x1 (constant S_ .f32 0x49800000#32))
def rDev (X : FVec Ideal T .f32) : FVec Ideal T .f32 :=
  subf X (broadcastInDim S9x4x256x64x64 ![0, 1, 2, 3, 4] bcast_S9x4x1x1x1_S9x4x256x64x64_0_1_2_3_4 (rMean X))
def rDof : FVec Ideal S_ .f32 := subf (constant S_ .f32 0x49800000#32) (sitofp .f32 (constantI S_ 32 0#32))
def rVar (X : FVec Ideal T .f32) : FVec Ideal S9x4x1x1x1 .f32 :=
  select (broadcastInDim S9x4x1x1x1 ![] bcast_S_S9x4x1x1x1 (cmpf .ogt rDof (constant S_ .f32 0x00000000#32)))
    (Host.divf (rSum (mulf (rDev X) (rDev X))) (broadcastInDim S9x4x1x1x1 ![] bcast_S_S9x4x1x1x1 rDof))
    (broadcastInDim S9x4x1x1x1 ![] bcast_S_S9x4x1x1x1 (id (constant S_ .f32 0x7FC00000#32)))
def rRs (X : FVec Ideal T .f32) : FVec Ideal S9x4x1x1x1 .f32 :=
  Host.rsqrt (addf (rVar X) (broadcastInDim S9x4x1x1x1 ![] bcast_S_S9x4x1x1x1 (constant S_ .f32 0x3727C5AC#32)))
def rCh (a : FVec Ideal S256 .f32) : FVec Ideal T .f32 :=
  broadcastInDim S9x4x256x64x64 ![0, 1, 2, 3, 4] bcast_S1x1x256x1x1_S9x4x256x64x64_0_1_2_3_4
    (broadcastInDim S1x1x256x1x1 ![2] bcast_S256_S1x1x256x1x1_2 a)
def rKey (X : FVec Ideal T .f32) : FVec Ideal T .f32 :=
  addf (mulf (mulf (rDev X) (broadcastInDim S9x4x256x64x64 ![0, 1, 2, 3, 4] bcast_S9x4x1x1x1_S9x4x256x64x64_0_1_2_3_4 (rRs X))) (rCh a3)) (rCh a4)
def rLgt (X : FVec Ideal T .f32) : FVec Ideal S9x4x64x64 .f32 :=
  Host.dotGeneral dot_S256_S9x4x256x64x64_S9x4x64x64_0_2_n_0134_n_n none a2 (rKey a3 a4 X)
def rMax (l : FVec Ideal S9x4x64x64 .f32) : FVec Ideal S4x64x64 .f32 :=
  maximumf (broadcastInDim S4x64x64 ![] bcast_S_S4x64x64 (constant S_ .f32 0xFF800000#32))
    (Host.reduce FloatOps.maximumf l (constant S_ .f32 0xFF800000#32) reducesTo_S9x4x64x64_S4x64x64_d0 h_S_)
def rAll (p : FVec Ideal S4x64x64 .f32) : FVec Ideal S9x4x64x64 .f32 :=
  broadcastInDim S9x4x64x64 ![0, 1, 2, 3] bcast_S1x4x64x64_S9x4x64x64_0_1_2_3
    (broadcastInDim S1x4x64x64 ![1, 2, 3] bcast_S4x64x64_S1x4x64x64_1_2_3 p)
def rExp (l : FVec Ideal S9x4x64x64 .f32) : FVec Ideal S9x4x64x64 .f32 := Host.exp (subf l (rAll (rMax l)))
def rAttn (e : FVec Ideal S9x4x64x64 .f32) : FVec Ideal S9x4x64x64 .f32 :=
  Host.divf e (rAll (Host.reduceAdd e (constant S_ .f32 0x00000000#32) reducesTo_S9x4x64x64_S4x64x64_d0 h_S_))
def rOut (X : FVec Ideal T .f32) (w : FVec Ideal S9x4x64x64 .f32) : FVec Ideal S4x256x64x64 .f32 :=
  transpose S4x256x64x64 [0, 3, 1, 2] (Host.dotGeneral dot_S9x4x256x64x64_S9x4x64x64_S4x64x64x256_0_0_2_n_134_123 none X w)
    transposes_S4x64x64x256_S4x256x64x64_0_3_1_2
def rRes : FVec Ideal S4x256x64x64 .f32 := rOut (rV a0 a1) (rAttn (rExp (rLgt a2 a3 a4 (rV a0 a1))))

end Stages

theorem res_eq (m : (ℓ : Loc nD τ sig) → Buf (Elt Ideal) ℓ) (c : Dev nD) :
    res_main_v33 m c = rRes (m ((c : Thread nD τ).loc main_arg0)) (m ((c : Thread nD τ).loc main_arg1)) (m ((c : Thread nD τ).loc main_arg2))
      (m ((c : Thread nD τ).loc main_arg3)) (m ((c : Thread nD τ).loc main_arg4)) := by
  unfold res_main_v33
  rfl

/-! ## Each stage at an index -/

theorem rV_at (a0 : FVec Ideal S8x4x256x64x64 .f32) (a1 : FVec Ideal S4x256x64x64 .f32) (n : Fin 9) (b : Fin 4) (k : Fin 256) (y v : Fin 64) :
    rV a0 a1 (ix5 n b k y v) = if h : n.val < 8 then a0 (ix5 ⟨n.val, h⟩ b k y v) else a1 (ix4 b k y v) := by
  pointwise [rV, fn_main_v1]

theorem rSum_at (X : FVec Ideal T .f32) (n : Fin 9) (b : Fin 4) (x y z : Fin 1) :
    rSum X (ix5 n b x y z) = ∑ k : Fin 256, ∑ y : Fin 64, ∑ v : Fin 64, X (ix5 n b k y v) := by
  pointwise [rSum]

theorem rMean_at (X : FVec Ideal T .f32) (n : Fin 9) (b : Fin 4) (x y z : Fin 1) :
    rMean X (ix5 n b x y z) = Ideal.div (rSum X (ix5 n b x y z)) (Ideal.ofBits .f32 0x49800000#32) := by
  pointwise [rMean]
theorem rDev_at (X : FVec Ideal T .f32) (n : Fin 9) (b : Fin 4) (k : Fin 256) (y v : Fin 64) :
    rDev X (ix5 n b k y v) = X (ix5 n b k y v) - rMean X (ix5 n b 0 0 0) := by
  pointwise [rDev]
theorem rDof_at (i : S_.Idx) : rDof i = ((1048576 : ℝ) : EReal) := by
  pointwise [rDof]
  rw [Cert.Attn.bits_n]
  change ((1048576 : ℝ) : EReal) - (((0#32 : BitVec 32).toInt : ℝ) : EReal) = _
  simp
theorem rVar_at (X : FVec Ideal T .f32) (n : Fin 9) (b : Fin 4) (x y z : Fin 1) :
    rVar X (ix5 n b x y z) = Ideal.div (rSum (mulf (rDev X) (rDev X)) (ix5 n b x y z)) ((1048576 : ℝ) : EReal) := by
  pointwise [rVar, rDof_at]
  rw [if_pos (by exact_mod_cast (by norm_num : (0 : ℝ) < 1048576))]
theorem rRs_at (X : FVec Ideal T .f32) (n : Fin 9) (b : Fin 4) (x y z : Fin 1) :
    rRs X (ix5 n b x y z) = Ideal.rsqrt (rVar X (ix5 n b x y z) + Ideal.ofBits .f32 0x3727C5AC#32) := by
  pointwise [rRs]
theorem rKey_at (a3 a4 : FVec Ideal S256 .f32) (X : FVec Ideal T .f32) (n : Fin 9) (b : Fin 4) (k : Fin 256) (y v : Fin 64) :
    rKey a3 a4 X (ix5 n b k y v) = rDev X (ix5 n b k y v) * rRs X (ix5 n b 0 0 0) * a3 (ix1 k) + a4 (ix1 k) := by
  pointwise [rKey, rCh]
theorem rLgt_at (a2 a3 a4 : FVec Ideal S256 .f32) (X : FVec Ideal T .f32) (n : Fin 9) (b : Fin 4) (y v : Fin 64) :
    rLgt a2 a3 a4 X (ix4 n b y v) = ∑ k : Fin 256, a2 (ix1 k) * rKey a3 a4 X (ix5 n b k y v) := by
  pointwise [rLgt]
theorem bits_bot : Ideal.ofBits .f32 0xFF800000#32 = ⊥ := by
  simp [Ideal.ofBits, Ideal.ieee]
theorem rMax_at (l : FVec Ideal S9x4x64x64 .f32) (f : Fin 9 → ℝ) (b : Fin 4) (y v : Fin 64)
    (h : ∀ n, l (ix4 n b y v) = ((f n : ℝ) : EReal)) : ∃ M : ℝ, rMax l (ix3 b y v) = ((M : ℝ) : EReal) := by
  pointwise [rMax]
  obtain ⟨j, -, e⟩ := Finset.exists_mem_eq_sup (Finset.univ : Finset (Fin 9)) ⟨0, Finset.mem_univ _⟩ (fun n => l (ix4 n b y v))
  refine ⟨f j, ?_⟩
  rw [bits_bot, max_eq_right bot_le, ← h j]
  exact e
theorem rExp_at (l : FVec Ideal S9x4x64x64 .f32) (n : Fin 9) (b : Fin 4) (y v : Fin 64) :
    rExp l (ix4 n b y v) = Ideal.exp (l (ix4 n b y v) - rMax l (ix3 b y v)) := by
  pointwise [rExp, rAll]
theorem rAttn_at (l : FVec Ideal S9x4x64x64 .f32) (n : Fin 9) (b : Fin 4) (y v : Fin 64) :
    rAttn l (ix4 n b y v) = Ideal.div (l (ix4 n b y v)) (∑ j : Fin 9, l (ix4 j b y v)) := by
  pointwise [rAttn, rAll]
theorem rOut_at (X : FVec Ideal T .f32) (w : FVec Ideal S9x4x64x64 .f32) (b : Fin 4) (k : Fin 256) (y v : Fin 64) :
    rOut X w (ix4 b k y v) = ∑ n : Fin 9, X (ix5 n b k y v) * w (ix4 n b y v) := by
  pointwise [rOut]

/-! ## Over real arguments -/

section Reals

variable (a0 : FVec Ideal S8x4x256x64x64 .f32) (a1 : FVec Ideal S4x256x64x64 .f32) (a2 a3 a4 : FVec Ideal S256 .f32)
variable (p : S8x4x256x64x64.Idx → ℝ) (x : S4x256x64x64.Idx → ℝ) (w g be : S256.Idx → ℝ)
variable (h0 : ∀ i, a0 i = ((p i : ℝ) : EReal)) (h1 : ∀ i, a1 i = ((x i : ℝ) : EReal))
variable (h2 : ∀ i, a2 i = ((w i : ℝ) : EReal)) (h3 : ∀ i, a3 i = ((g i : ℝ) : EReal)) (h4 : ∀ i, a4 i = ((be i : ℝ) : EReal))

include h0 h1 in
theorem rV_coe (n : Fin 9) (b : Fin 4) (k : Fin 256) (y v : Fin 64) :
    rV a0 a1 (ix5 n b k y v) = ((imgs p x b n y v k : ℝ) : EReal) := by
  rw [rV_at]
  unfold imgs
  split
  · exact h0 _
  · exact h1 _

/-- The sum over channels, rows and columns is the sum over the source. -/
theorem sum_tot (f : Img) : (∑ k : Fin 256, ∑ y : Fin 64, ∑ v : Fin 64, ((f y v k : ℝ) : EReal)) = ((tot f : ℝ) : EReal) := by
  simp only [← coe_sum]
  congr 1
  unfold tot
  rw [Finset.sum_comm]
  exact Finset.sum_congr rfl fun y _ => Finset.sum_comm

section Image

variable (X : FVec Ideal T .f32) (n : Fin 9) (b : Fin 4) (f : Img) (hX : ∀ k y v, X (ix5 n b k y v) = ((f y v k : ℝ) : EReal))
include hX

theorem rSum_coe (u u' u'' : Fin 1) : rSum X (ix5 n b u u' u'') = ((tot f : ℝ) : EReal) := by
  rw [rSum_at, ← sum_tot]
  simp only [hX]
theorem rMean_coe (u u' u'' : Fin 1) : rMean X (ix5 n b u u' u'') = ((mu f : ℝ) : EReal) := by
  rw [rMean_at, rSum_coe X n b f hX, Cert.Attn.bits_n, Ideal.div_coe (by norm_num), ← EReal.coe_mul]
  unfold mu
  congr 1
  ring
theorem rDev_coe (k : Fin 256) (y v : Fin 64) : rDev X (ix5 n b k y v) = ((f y v k - mu f : ℝ) : EReal) := by
  rw [rDev_at, rMean_coe X n b f hX, hX, ← EReal.coe_sub]
theorem rVar_coe (u u' u'' : Fin 1) : rVar X (ix5 n b u u' u'') = ((va f : ℝ) : EReal) := by
  rw [rVar_at, rSum_coe (mulf (rDev X) (rDev X)) n b (fun y v k => (f y v k - mu f) * (f y v k - mu f)),
    Ideal.div_coe (by norm_num), ← EReal.coe_mul, ← Cert.Attn.va_eq]
  · congr 1
    ring
  · intro k y v
    pointwise []
    rw [rDev_coe X n b f hX, ← EReal.coe_mul]
theorem rRs_coe (u u' u'' : Fin 1) : rRs X (ix5 n b u u' u'') = ((rs f : ℝ) : EReal) := by
  rw [rRs_at, rVar_coe X n b f hX, Cert.Attn.bits_eps, ← EReal.coe_add, Ideal.rsqrt_coe,
    if_neg (not_lt.mpr (Cert.Attn.va_eps_pos f).le), if_neg (Cert.Attn.va_eps_pos f).ne']
  rfl

include h2 h3 h4 in
theorem rLgt_coe (y v : Fin 64) : rLgt a2 a3 a4 X (ix4 n b y v)
    = ((lgt (fun k => w (ix1 k)) (fun k => g (ix1 k)) (fun k => be (ix1 k)) f y v : ℝ) : EReal) := by
  rw [rLgt_at]
  unfold lgt
  rw [coe_sum]
  refine Finset.sum_congr rfl fun k _ => ?_
  rw [rKey_at, rDev_coe X n b f hX, rRs_coe X n b f hX, h2, h3, h4, ← EReal.coe_mul, ← EReal.coe_mul, ← EReal.coe_add, ← EReal.coe_mul]

end Image

include h0 h1 h2 h3 h4 in
/-- The specification's result. -/
theorem rRes_coe (b : Fin 4) (k : Fin 256) (y v : Fin 64) :
    rRes a0 a1 a2 a3 a4 (ix4 b k y v)
      = ((attn (fun k => w (ix1 k) * g (ix1 k)) (∑ k, w (ix1 k) * g (ix1 k)) (imgs p x b) y v k : ℝ) : EReal) := by
  have hl := fun n => rLgt_coe a2 a3 a4 w g be h2 h3 h4 (rV a0 a1) n b (imgs p x b n) (fun k y v => rV_coe a0 a1 p x h0 h1 n b k y v) y v
  obtain ⟨M, hM⟩ := rMax_at _ _ b y v hl
  rw [← Cert.Attn.softmax_eq (fun k => w (ix1 k)) (fun k => g (ix1 k)) (fun k => be (ix1 k)) (imgs p x b) M y v k, coe_sum]
  unfold rRes
  rw [rOut_at]
  refine Finset.sum_congr rfl fun n _ => ?_
  have he : ∀ n, rExp (rLgt a2 a3 a4 (rV a0 a1)) (ix4 n b y v) = ((Real.exp (lgt (fun k => w (ix1 k)) (fun k => g (ix1 k))
      (fun k => be (ix1 k)) (imgs p x b n) y v - M) : ℝ) : EReal) := fun n => by
    rw [rExp_at, hl n, hM, ← EReal.coe_sub, Ideal.exp_coe]
  rw [rV_coe a0 a1 p x h0 h1, rAttn_at]
  simp only [he]
  rw [← coe_sum, Ideal.div_coe, ← EReal.coe_mul, ← EReal.coe_mul]
  · rw [mul_one_div, mul_comm]
  · exact (Finset.sum_pos (fun n _ => Real.exp_pos _) ⟨0, Finset.mem_univ _⟩).ne'

end Reals

end Cert.ReferenceIdeal.Value
end
-- ==== Proof.Value.Finite.lean ====
/-
  The precondition: an argument whose entries' magnitudes are all below infinity is a real array.
-/
module

public import proofs.«01_k».proof.Proof.Gen.Pre_finite
public import Idealize.ShloMosaic.Lib.ReduceAll
public import Idealize.ShloMosaic.Lib.Affine
public import Idealize.ShloMosaic.Lib.Pointwise

@[expose] public section

noncomputable section

namespace Cert.Pre_finite

open Idealize.ShloMosaic Cert.Pre_finite.Gen

theorem bits_top : Ideal.ofBits .f32 0x7F800000#32 = ⊤ := by
  simp [Ideal.ofBits, Ideal.ieee]

theorem real_of_abs (x : EReal) (h : max x (-x) < ⊤) : x = ((x.toReal : ℝ) : EReal) := by
  refine (EReal.coe_toReal ?_ ?_).symm
  · rintro rfl
    simp at h
  · rintro rfl
    simp at h

instance : Subsingleton S_.Idx := ⟨fun a b => funext fun i => i.elim0⟩

variable {s : Shape} {axes : List (Fin s.rank)}

theorem real_of (x : FVec Ideal s .f32) (hb : S_.BroadcastsInDim s (![] : Fin 0 → Fin s.rank)) (hr : s.ReducesTo axes S_) (hn : 0 < S_.numel)
    (j : S_.Idx)
    (e : Host.reduce IntOp.andi (cmpf .olt (Host.absf x) (broadcastInDim s ![] hb (constant S_ .f32 0x7F800000#32))) (constantI S_ 1 1#1) hr hn j = 1#1) :
    ∃ r : s.Idx → ℝ, ∀ i, x i = ((r i : ℝ) : EReal) := by
  refine ⟨fun i => (x i : EReal).toReal, fun i => real_of_abs (x i) ?_⟩
  have h := Host.reduce_andi_all _ _ hr hn j e i
  have h2 : Ideal.cmp .olt (max (x i : EReal) (-(x i : EReal))) (Ideal.ofBits .f32 0x7F800000#32) = 1#1 := h
  rw [bits_top] at h2
  by_contra hc
  simp only [Ideal.cmp] at h2
  rw [decide_eq_false hc] at h2
  exact absurd h2 (by decide)

theorem reals (a0 : FVec Ideal S8x4x256x64x64 .f32) (a1 : FVec Ideal S4x256x64x64 .f32) (a2 a3 a4 : FVec Ideal S256 .f32)
    (e : fn (F := Ideal) a0 a1 a2 a3 a4 = fun _ => 1#1) :
    (∃ r : S8x4x256x64x64.Idx → ℝ, ∀ i, a0 i = ((r i : ℝ) : EReal)) ∧ (∃ r : S4x256x64x64.Idx → ℝ, ∀ i, a1 i = ((r i : ℝ) : EReal))
      ∧ (∃ r : S256.Idx → ℝ, ∀ i, a2 i = ((r i : ℝ) : EReal)) ∧ (∃ r : S256.Idx → ℝ, ∀ i, a3 i = ((r i : ℝ) : EReal))
      ∧ (∃ r : S256.Idx → ℝ, ∀ i, a4 i = ((r i : ℝ) : EReal)) := by
  have h := congrFun e (Shape.Idx.first Facts.h_S_)
  unfold fn fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of _ _ _ _ _ h0, real_of _ _ _ _ _ h1, real_of _ _ _ _ _ h2, real_of _ _ _ _ _ h3, real_of _ _ _ _ _ h4⟩

end Cert.Pre_finite
end
-- ==== Proof.Value.Final.lean ====
/-
  The two programs' results are the same array.
-/
module

public import proofs.«01_k».proof.Defs
public import proofs.«01_k».proof.Proof.Value.Ops
public import proofs.«01_k».proof.Proof.Value.Ref
public import proofs.«01_k».proof.Proof.Value.Finite

@[expose] public section

noncomputable section

namespace Cert.Attn

open Idealize.ShloMosaic Idealize.ShloMosaic.TcCoe Idealize.SL.Sem

theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v33 m' c
      = Pipeline.afterTail₀ Cert.KernelIdeal.cfgs (Cert.KernelIdeal.Gen.dats m) 0 (Cert.KernelIdeal.Gen.V0 m)
          [Cert.KernelIdeal.Gen.hostOps1] c Cert.KernelIdeal.main_v9 := by
  obtain ⟨⟨b, hb⟩, ⟨x, hx⟩, ⟨w, hw⟩, ⟨g, hg⟩, ⟨be, hbe⟩⟩ := Cert.Pre_finite.reals _ _ _ _ _ (hpre c)
  rw [Cert.KernelIdeal.Gen.tail m c b x w g hb hx hw hg, Cert.ReferenceIdeal.Value.res_eq, e0, e1, e2, e3, e4]
  funext i
  obtain ⟨i0, i1, i2, i3, rfl⟩ : ∃ (i0 : Fin 4) (i1 : Fin 256) (i2 i3 : Fin 64), i = (ix4 i0 i1 i2 i3 : Cert.ReferenceIdeal.S4x256x64x64.Idx) :=
    ⟨i 0, i 1, i 2, i 3, by idx_ext⟩
  exact Cert.ReferenceIdeal.Value.rRes_coe _ _ _ _ _ b x w g be hb hx hw hg hbe i0 i1 i2 i3

end Cert.Attn

namespace Cert.KernelIdeal.Gen

open Idealize.ShloMosaic Idealize.ShloMosaic.TcCoe Idealize.SL.Sem

/-- The kernel's run, its result named. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_v9 (Pipeline.mem_restRefs_of main_v9 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Gen

end
-- ==== Proof.lean ====
/- The claims: the kernel, its idealization and the reference terminate, leave their arguments unchanged and every semaphore
   at zero; the idealization names the one constant it rewrites; on finite arguments the idealization and the reference
   end with the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Kernel.Runs
public import proofs.«01_k».proof.Proof.KernelIdeal.Runs
public import proofs.«01_k».proof.Proof.Value.Final
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri_finite : Cert.quiescent_ReferenceIdeal_pre_finite := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "log2e" .f32 0x3FB8AA3B#32 (((Real.log 2)⁻¹ : ℝ) : EReal) rfl

theorem algebraic : Cert.algebraic_KernelIdeal_ReferenceIdeal_pre_finite := by
  intro m g m' g' hpre hagree
  refine ⟨_, Cert.KernelIdeal.Gen.run_value m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4⟩ := hagree c
  exact Cert.Attn.value m m' hpre c e0 e1 e2 e3 e4

theorem claim : Cert.Claim := ⟨Cert.Kernel.Gen.facts, Cert.KernelIdeal.Gen.facts, Cert.ReferenceIdeal.Gen.facts,
  Cert.Pre_finite.Gen.facts, frame_p, frame_pi, frame_pi_finite, frame_ri, frame_ri_finite, preserves, algebraic⟩

end Cert.Proof

end
